-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 64]⟩ ⟨2, ![512, 64]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨2, ![128, 64]⟩ ⟨2, ![512, 64]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x64 : Shape := ⟨2, ![128, 64]⟩
abbrev S64x128 : Shape := ⟨2, ![64, 128]⟩
abbrev S512x64 : Shape := ⟨2, ![512, 64]⟩
abbrev S1 : Shape := ⟨1, ![1]⟩
abbrev S3 : Shape := ⟨1, ![3]⟩
abbrev S_ : Shape := ⟨0, ![]⟩
abbrev S256x64 : Shape := ⟨2, ![256, 64]⟩

abbrev nBuf : Space → Nat
  | .hbm => 4
  | .vmem => 3
  | .smem => 0
  | _ => 0

abbrev bufTy : (tb : Table) → Fin (tcTables nBuf tb) → BufTy
  | .hbm, ⟨0, _⟩ => ⟨S128x64, .f32⟩
  | .hbm, ⟨1, _⟩ => ⟨S64x128, .f32⟩
  | .hbm, ⟨2, _⟩ => ⟨S64x128, .f32⟩
  | .hbm, ⟨3, _⟩ => ⟨S128x64, .f32⟩
  | .local _ .vmem, ⟨0, _⟩ => ⟨S64x128, .f32⟩
  | .local _ .vmem, ⟨1, _⟩ => ⟨S512x64, .bf16⟩
  | .local _ .vmem, ⟨2, _⟩ => ⟨S64x128, .f32⟩
  | _, _ => ⟨S128x64, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev main_v2 : Ref sig .tc := ⟨.hbm, 2, rfl⟩
abbrev main_v3 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v16 : BitVec 32 := Scalar.addi v2 c1_i32_6
  let c4_i32_7 : BitVec 32 := 4#32
  let c0_i32_8 : BitVec 32 := 0#32
  let v17 : BitVec 1 := Scalar.cmpi .eq c4_i32_7 c0_i32_8
  let c1_i32_9 : BitVec 32 := 1#32
  let v18 : BitVec 32 := Scalar.select v17 c1_i32_9 c4_i32_7
  let v19 : BitVec 32 := Scalar.remsi v16 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let c1_i32_14 : BitVec 32 := 1#32
  let v27 : BitVec 32 := Scalar.muli v26 c1_i32_14
  let v28 : BitVec 32 := Scalar.addi c0_i32_15 v27
  v28.toNat
def k0_dev2 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_16 : BitVec 32 := 2#32
  let v29 : BitVec 32 := Scalar.addi v2 c2_i32_16
  let c4_i32_17 : BitVec 32 := 4#32
  let c0_i32_18 : BitVec 32 := 0#32
  let v30 : BitVec 1 := Scalar.cmpi .eq c4_i32_17 c0_i32_18
  let c1_i32_19 : BitVec 32 := 1#32
  let v31 : BitVec 32 := Scalar.select v30 c1_i32_19 c4_i32_17
  let v32 : BitVec 32 := Scalar.remsi v29 v31
  let c0_i32_21 : BitVec 32 := 0#32
  let v34 : BitVec 1 := Scalar.cmpi .slt v32 c0_i32_21
  let c0_i32_22 : BitVec 32 := 0#32
  let v35 : BitVec 1 := Scalar.cmpi .slt v31 c0_i32_22
  let v36 : BitVec 1 := Scalar.xori v34 v35
  let c0_i32_20 : BitVec 32 := 0#32
  let v33 : BitVec 1 := Scalar.cmpi .ne v32 c0_i32_20
  let v37 : BitVec 1 := Scalar.andi v36 v33
  let v38 : BitVec 32 := Scalar.addi v32 v31
  let v39 : BitVec 32 := Scalar.select v37 v38 v32
  let c1_i32_24 : BitVec 32 := 1#32
  let v40 : BitVec 32 := Scalar.muli v39 c1_i32_24
  let v41 : BitVec 32 := Scalar.addi c0_i32_25 v40
  v41.toNat
def k0_dev3 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v42 : BitVec 32 := Scalar.addi v2 c3_i32
  let c4_i32_26 : BitVec 32 := 4#32
  let c0_i32_27 : BitVec 32 := 0#32
  let v43 : BitVec 1 := Scalar.cmpi .eq c4_i32_26 c0_i32_27
  let c1_i32_28 : BitVec 32 := 1#32
  let v44 : BitVec 32 := Scalar.select v43 c1_i32_28 c4_i32_26
  let v45 : BitVec 32 := Scalar.remsi v42 v44
  let c0_i32_30 : BitVec 32 := 0#32
  let v47 : BitVec 1 := Scalar.cmpi .slt v45 c0_i32_30
  let c0_i32_31 : BitVec 32 := 0#32
  let v48 : BitVec 1 := Scalar.cmpi .slt v44 c0_i32_31
  let v49 : BitVec 1 := Scalar.xori v47 v48
  let c0_i32_29 : BitVec 32 := 0#32
  let v46 : BitVec 1 := Scalar.cmpi .ne v45 c0_i32_29
  let v50 : BitVec 1 := Scalar.andi v49 v46
  let v51 : BitVec 32 := Scalar.addi v45 v44
  let v52 : BitVec 32 := Scalar.select v50 v51 v45
  let c1_i32_33 : BitVec 32 := 1#32
  let v53 : BitVec 32 := Scalar.muli v52 c1_i32_33
  let v54 : BitVec 32 := Scalar.addi c0_i32_34 v53
  v54.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_251 : BitVec 32 := 128#32
  let v616 : BitVec 32 := Scalar.muli v2 c128_i32_251
  let v617 : Index := Scalar.indexCast v616
  let c0_252 : Index := 0#32
  ![v617.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_251 : BitVec 32 := 128#32
  let v616 : BitVec 32 := Scalar.muli v2 c128_i32_251
  let c0_i32_267 : BitVec 32 := 0#32
  ![v616.toNat, 0]
def k0_dev4 (d0 : Dev nD) : Nat :=
  let c0_i32_266 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_254 : BitVec 32 := 1#32
  let v621 : BitVec 32 := Scalar.xori v2 c1_i32_254
  let c1_i32_265 : BitVec 32 := 1#32
  let v634 : BitVec 32 := Scalar.muli v621 c1_i32_265
  let v635 : BitVec 32 := Scalar.addi c0_i32_266 v634
  v635.toNat
def k0_dev5 (d0 : Dev nD) : Nat :=
  let c0_i32_272 : BitVec 32 := 0#32
  let c3_i32_255 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v622 : BitVec 32 := Scalar.subi c3_i32_255 v2
  let c1_i32_271 : BitVec 32 := 1#32
  let v642 : BitVec 32 := Scalar.muli v622 c1_i32_271
  let v643 : BitVec 32 := Scalar.addi c0_i32_272 v642
  v643.toNat
def k0_dev6 (d0 : Dev nD) : Nat :=
  let c0_i32_278 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_256 : BitVec 32 := 2#32
  let v623 : BitVec 32 := Scalar.addi v2 c2_i32_256
  let c4_i32_257 : BitVec 32 := 4#32
  let c0_i32_258 : BitVec 32 := 0#32
  let v624 : BitVec 1 := Scalar.cmpi .eq c4_i32_257 c0_i32_258
  let c1_i32_259 : BitVec 32 := 1#32
  let v625 : BitVec 32 := Scalar.select v624 c1_i32_259 c4_i32_257
  let v626 : BitVec 32 := Scalar.remsi v623 v625
  let c0_i32_261 : BitVec 32 := 0#32
  let v628 : BitVec 1 := Scalar.cmpi .slt v626 c0_i32_261
  let c0_i32_262 : BitVec 32 := 0#32
  let v629 : BitVec 1 := Scalar.cmpi .slt v625 c0_i32_262
  let v630 : BitVec 1 := Scalar.xori v628 v629
  let c0_i32_260 : BitVec 32 := 0#32
  let v627 : BitVec 1 := Scalar.cmpi .ne v626 c0_i32_260
  let v631 : BitVec 1 := Scalar.andi v630 v627
  let v632 : BitVec 32 := Scalar.addi v626 v625
  let v633 : BitVec 32 := Scalar.select v631 v632 v626
  let c1_i32_277 : BitVec 32 := 1#32
  let v650 : BitVec 32 := Scalar.muli v633 c1_i32_277
  let v651 : BitVec 32 := Scalar.addi c0_i32_278 v650
  v651.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_287 : BitVec 32 := 1#32
  let v665 : BitVec 32 := Scalar.xori v2 c1_i32_287
  let c128_i32_288 : BitVec 32 := 128#32
  let v666 : BitVec 32 := Scalar.muli v665 c128_i32_288
  let v667 : Index := Scalar.indexCast v666
  let c0_289 : Index := 0#32
  ![v667.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_5 : BitVec 32 := 2#32
  let v14 : BitVec 1 := Scalar.cmpi .sge v2 c2_i32_5
  let c0_i32_343 : BitVec 32 := 0#32
  let c256_i32 : BitVec 32 := 256#32
  let v820 : BitVec 32 := Scalar.select v14 c0_i32_343 c256_i32
  let v821 : Index := Scalar.indexCast v820
  let c0_344 : Index := 0#32
  ![v821.toNat, 0]
abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S512x64 : Shape := ⟨2, ![512, 64]⟩

abbrev nBuf : Space → Nat
  | .hbm => 2
  | .vmem => 0
  | .smem => 0
  | _ => 0

abbrev bufTy : (tb : Table) → Fin (tcTables nBuf tb) → BufTy
  | .hbm, ⟨0, _⟩ => ⟨S512x64, .f32⟩
  | .hbm, ⟨1, _⟩ => ⟨S512x64, .f32⟩
  | _, _ => ⟨S512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Values.lean ====
/-
# The values the kernel computes, named

What a device stores and what it returns, as functions of the blocks it reads: the block of the input it has copied in, the two
neighbouring blocks and the far pair of blocks it finds in its gather buffer.
-/
module

public import proofs.«01_k».proof.Proof.Gen.KernelIdeal.Skeleton

@[expose] public section

noncomputable section

namespace Cert.ColSort

open Cert.KernelIdeal Cert.KernelIdeal.Gen
open Idealize.ShloMosaic Idealize.SL.Sem

variable {F : FTy → Type} [FloatOps F]

/-- The row number of every entry of a 128 × 64 block, of a 256 × 64 block. -/
abbrev rows128 : IVec S128x64 32 := iota .tc S128x64 32 [0] iota_S128x64_d0_w32
abbrev rows256 : IVec S256x64 32 := iota .tc S256x64 32 [0] iota_S256x64_d0_w32

/-- The device's place on the axis, as the kernel's word computes it. -/
def place (d : Dev nD) : BitVec 32 := Scalar.remsi (Scalar.divsi (Dev.word d) 1#32) 4#32

/-- The kernel's remainder of the place by two. -/
def placeMod (d : Dev nD) : BitVec 32 :=
  Scalar.remsi (place d) (Scalar.select (Scalar.cmpi .eq 2#32 0#32) 1#32 2#32)

/-- Whether the device's place is odd. -/
def oddBit (d : Dev nD) : BitVec 1 :=
  Scalar.cmpi .eq
    (Scalar.select
      (Scalar.andi
        (Scalar.xori (Scalar.cmpi .slt (placeMod d) 0#32)
          (Scalar.cmpi .slt (Scalar.select (Scalar.cmpi .eq 2#32 0#32) 1#32 2#32) 0#32))
        (Scalar.cmpi .ne (placeMod d) 0#32))
      (Scalar.addi (placeMod d) (Scalar.select (Scalar.cmpi .eq 2#32 0#32) 1#32 2#32))
      (placeMod d)) 1#32

/-- Whether the device is in the upper pair. -/
def highBit (d : Dev nD) : BitVec 1 := Scalar.cmpi .sge (place d) 2#32

/-! ## The block's own sort -/

/-- From two stages done to five done. -/
def sortMidA (v100 : FVec F S128x64 .bf16) : FVec F S128x64 .bf16 :=
  let v109 := k0_pay4 rows128
  let v138 := k0_pay5 rows128 v100 v109
  let v147 := k0_pay6 rows128
  let v148 := k0_pay7 rows128 v100 v109
  let v149 := k0_pay8 rows128 v100 v109
  k0_pay14 rows128 (k0_pay10 rows128 v138 v147 v148 v149 k0_pay9) (k0_pay11 rows128)
    (k0_pay12 rows128 v138 v147 v148 v149 k0_pay9) (k0_pay13 rows128 v138 v147 v148 v149 k0_pay9)

/-- The stages after `sortMidA`'s two next ones, up to the last merge's first stages. -/
def sortMidB (v271 : FVec F S128x64 .bf16) : FVec F S128x64 .bf16 :=
  let v275 := k0_pay17 rows128
  let v277 := k0_pay18 rows128
  let v309 := k0_pay19 rows128 v271 v275 v277 0#32
  let v318 := k0_pay20 rows128
  let v319 := k0_pay21 rows128 v271 v275 v277 0#32
  k0_pay28 rows128 (k0_pay22 rows128 v309 v318 v319 2#32) (k0_pay23 rows128)
    (k0_pay24 rows128 v309 v318 v319 2#32) (k0_pay25 rows128 v309 v318 v319 2#32) (k0_pay26 rows128) k0_pay27

/-- The block before the last merge, which alone depends on the device's place. -/
def sortHead (x : Vec F S64x128 .f32) : FVec F S128x64 .bf16 :=
  k0_pay29 rows128
    (sortMidB (k0_pay16 rows128 (sortMidA (k0_pay3 (k0_pay1 x) rows128 k0_pay2 2#32)) (k0_pay15 rows128) 0#32)) 4#32

/-- The last merge: the block in rising order on an even place, in falling order on an odd one. -/
def sortTail (b : BitVec 1) (v442 : FVec F S128x64 .bf16) : FVec F S128x64 .bf16 :=
  k0_pay40 b rows128
    (k0_pay37 b rows128
      (k0_pay34 b rows128 (k0_pay31 b rows128 v442 (k0_pay30 rows128) 64#32) (k0_pay32 rows128) (k0_pay33 rows128) 0#32)
      (k0_pay35 rows128) (k0_pay36 rows128) 0#32)
    (k0_pay38 rows128) (k0_pay39 rows128) 0#32

/-- The block device `d` shares, from its block of the input. -/
def sortedOf (d : Dev nD) (x : Vec F S64x128 .f32) : FVec F S128x64 .bf16 := sortTail (oddBit d) (sortHead x)

/-! ## The merges of the shared blocks -/

/-- The own pair merged: 256 rows. -/
def nearPair (b h : BitVec 1) (own mate : FVec F S128x64 .bf16) : FVec F S256x64 .bf16 :=
  let v688 := k0_pay42 b h own mate
  let v690 := k0_pay43
  let v691 := k0_pay44
  let v722 := k0_pay45 h rows256 v688 v690 v691
  k0_pay52 h rows256
    (k0_pay50 h rows256 v722 (k0_pay46 h rows256) (k0_pay47 h rows256 v688 v690 v691) (k0_pay48 h rows256 v688 v690 v691)
      (k0_pay49 rows256))
    (k0_pay51 h rows256) 254#32

/-- The far pair, all but its last stage. -/
def farPair (h : BitVec 1) (v822 : FVec F S256x64 .bf16) : FVec F S256x64 .bf16 :=
  let v823 := Scalar.xori h 1#1
  let v857 := k0_pay53 h rows256 v822
  let v859 := k0_pay54 rows256
  let v891 := k0_pay55 rows256 v823 v857 v859 0#32
  k0_pay61 rows256 v823 v891 (k0_pay56 rows256 v823) (k0_pay57 rows256 v823 v857 v859 0#32)
    (k0_pay58 rows256 v823 v857 v859 0#32) (k0_pay59 rows256) k0_pay60

/-- The last merge: what the device returns, transposed. -/
def lastMerge (b h : BitVec 1) (v807 v942 : FVec F S256x64 .bf16) : FVec F S64x128 .f32 :=
  let v949 := k0_pay62 rows256 (Scalar.xori h 1#1)
  let v983 := k0_pay63 b h rows128 rows256 v807 v942 v949
  let v987 := k0_pay64 rows128
  let v988 := k0_pay65 b h rows128 rows256 v807 v942 v949
  let v989 := k0_pay66 b h rows128 rows256 v807 v942 v949
  let v993 := k0_pay67 rows128
  k0_pay73 rows128 (k0_pay68 rows128 v983 v987 v988 v989 v993) (k0_pay69 rows128) (k0_pay70 rows128 v983 v987 v988 v989 v993)
    (k0_pay71 rows128 v983 v987 v988 v989 v993) (k0_pay72 rows128)

/-- What device `d` returns, from the block it shares, its mate's and the far pair's two. -/
def outOf (d : Dev nD) (own mate : FVec F S128x64 .bf16) (far : FVec F S256x64 .bf16) : FVec F S64x128 .f32 :=
  lastMerge (oddBit d) (highBit d) (nearPair (oddBit d) (highBit d) own mate) (farPair (highBit d) far)

end Cert.ColSort

end
-- ==== Proof.Protocol.lean ====
/-
# The exchange of sorted blocks, as a protocol

Every device signals the other three that it is ready, copies its own block of the input in and sorts it, waits for the three
signals, and sends its sorted block to the other three, into the same rows of their gather buffers. The devices stand in three
pairings (`peer 0`, `peer 1`, `peer 2`), each an involution. A ready signal hands over the rows of the sender's gather buffer the
receiver will write; a copy that lands hands them back, written.
-/
module

public import proofs.«01_k».proof.Proof.Values
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Rounds
public import Idealize.ShloMosaic.Lib.Ring.Trips
public import Idealize.ShloMosaic.Lib.Pipeline.Launch
public import Idealize.ShloMosaic.Lib.Pipeline.RegionTalk
public import Idealize.ShloMosaic.Lib.Pipeline.ValueKit
public import Idealize.ShloMosaic.Lib.Tactic

@[expose] public section

noncomputable section

namespace Cert.ColSort

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)
open Idealize.ShloMosaic.Pipeline (Dat Cfg Window BodyObligation cellOf)

variable {F : FTy → Type} [FloatOps F]

/-! ## The resource algebra -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The three pairings -/

/-- The device paired with `c` in pairing `r`: the mate of its own pair, the mirror image, the device two further on. -/
def peer (r : Fin 3) (c : Dev nD) : Dev nD :=
  match r with
  | 0 => ⟨if c.val % 2 = 0 then c.val + 1 else c.val - 1, by have : c.val < 4 := c.isLt; show _ < 4; split <;> omega⟩
  | 1 => ⟨3 - c.val, by show _ < 4; omega⟩
  | 2 => ⟨(c.val + 2) % 4, Nat.mod_lt _ (by decide)⟩

theorem peer_peer (r : Fin 3) (c : Dev nD) : peer r (peer r c) = c := by revert r c; decide

/-- The pairing of the next device, and of the one before. -/
def relA (c : Dev nD) : Fin 3 := if c.val % 2 = 0 then 0 else 1
def relB (c : Dev nD) : Fin 3 := if c.val % 2 = 0 then 1 else 0

theorem dev1_eq (c : Dev nD) : (⟨k0_dev1 c, k0_dev1_lt c⟩ : Dev nD) = peer (relA c) c := by revert c; decide +kernel
theorem dev2_eq (c : Dev nD) : (⟨k0_dev2 c, k0_dev2_lt c⟩ : Dev nD) = peer 2 c := by revert c; decide +kernel
theorem dev3_eq (c : Dev nD) : (⟨k0_dev3 c, k0_dev3_lt c⟩ : Dev nD) = peer (relB c) c := by revert c; decide +kernel
theorem dev4_eq (c : Dev nD) : (⟨k0_dev4 c, k0_dev4_lt c⟩ : Dev nD) = peer 0 c := by revert c; decide +kernel
theorem dev5_eq (c : Dev nD) : (⟨k0_dev5 c, k0_dev5_lt c⟩ : Dev nD) = peer 1 c := by revert c; decide +kernel
theorem dev6_eq (c : Dev nD) : (⟨k0_dev6 c, k0_dev6_lt c⟩ : Dev nD) = peer 2 c := by revert c; decide +kernel

/-- A family over the three pairings, as a conjunction. -/
abbrev tri (Φ : Fin 3 → sProp 𝕄) : sProp 𝕄 := iprop(Φ 0 ∗ Φ 1 ∗ Φ 2)

/-- The three in the order in which the kernel signals. -/
theorem tri_order (Φ : Fin 3 → sProp 𝕄) (c : Dev nD) : tri Φ ⊢ iprop(Φ (relA c) ∗ Φ 2 ∗ Φ (relB c)) := by
  unfold relA relB
  split
  · iintro ⟨H0, H1, H2⟩
    isplitl [H0]; · iexact H0
    isplitl [H2] <;> iassumption
  · iintro ⟨H0, H1, H2⟩
    isplitl [H1]; · iexact H1
    isplitl [H2] <;> iassumption

/-! ## Memrefs, semaphores, cells -/

abbrev xM : Memref sig .tc .vmem S64x128 .f32 := Memref.whole cc0_scratch1
abbrev iM : Memref sig .tc .hbm S64x128 .f32 := Memref.whole main_v1
abbrev oM : Memref sig .tc .vmem S64x128 .f32 := Memref.whole cc0_stg0_0
abbrev gM : Memref sig .tc .vmem S512x64 .bf16 := Memref.whole cc0_scratch0
/-- The rows of the gather buffer that device `b`'s block takes. -/
abbrev blkM (b : Dev nD) : Memref sig .tc .vmem S128x64 .bf16 :=
  gM.slice (Rect.unit (s := S512x64) (k0_off2 b) S128x64.size (k0_off2_inb b)) (fun _ => rfl)

abbrev barS : Sem sig := (SemArray.scalar (sig.barrier 0 rfl) : Sems sig S_).sem
abbrev locS : DmaSem sig := (1 : Fin 8)
abbrev sndS (r : Fin 3) : DmaSem sig := match r with | 0 => (2 : Fin 8) | 1 => (3 : Fin 8) | 2 => (4 : Fin 8)
abbrev rcvS (r : Fin 3) : DmaSem sig := match r with | 0 => (5 : Fin 8) | 1 => (6 : Fin 8) | 2 => (7 : Fin 8)

theorem loc_sem : ((cc0_scratch2.slice (Rect.unit (s := S1) ![0] S1.size inb_S1_S1_0)).squeeze S_ squeezes_S1_S_).sem = locS := rfl
theorem snd_sem0 : ((cc0_scratch3.slice (Rect.unit (s := S3) ![0] S1.size inb_S3_S1_0)).squeeze S_ squeezes_S1_S_).sem = sndS 0 := rfl
theorem snd_sem1 : ((cc0_scratch3.slice (Rect.unit (s := S3) ![1] S1.size inb_S3_S1_1)).squeeze S_ squeezes_S1_S_).sem = sndS 1 := rfl
theorem snd_sem2 : ((cc0_scratch3.slice (Rect.unit (s := S3) ![2] S1.size inb_S3_S1_2)).squeeze S_ squeezes_S1_S_).sem = sndS 2 := rfl
theorem rcv_sem0 : ((cc0_scratch4.slice (Rect.unit (s := S3) ![0] S1.size inb_S3_S1_0)).squeeze S_ squeezes_S1_S_).sem = rcvS 0 := rfl
theorem rcv_sem1 : ((cc0_scratch4.slice (Rect.unit (s := S3) ![1] S1.size inb_S3_S1_1)).squeeze S_ squeezes_S1_S_).sem = rcvS 1 := rfl
theorem rcv_sem2 : ((cc0_scratch4.slice (Rect.unit (s := S3) ![2] S1.size inb_S3_S1_2)).squeeze S_ squeezes_S1_S_).sem = rcvS 2 := rfl

abbrev barCell (c : Dev nD) : GSem nD τ sig := ((c : Thread nD τ), .reg barS)
abbrev locCell (c : Dev nD) : GSem nD τ sig := ((c : Thread nD τ), .dma locS)
abbrev sndCell (c : Dev nD) (r : Fin 3) : GSem nD τ sig := ((c : Thread nD τ), .dma (sndS r))
abbrev rcvCell (c : Dev nD) (r : Fin 3) : GSem nD τ sig := ((c : Thread nD τ), .dma (rcvS r))

/-- What a semaphore is for. -/
inductive Role where
  | bar | loc | snd (r : Fin 3) | rcv (r : Fin 3) | other
  deriving DecidableEq

def role : SemLoc sig → Role
  | .reg s => if s = barS then .bar else .other
  | .dma q =>
    match (q : Fin 8) with
    | 1 => .loc
    | 2 => .snd 0 | 3 => .snd 1 | 4 => .snd 2
    | 5 => .rcv 0 | 6 => .rcv 1 | 7 => .rcv 2
    | _ => .other

theorem role_bar : role (.reg barS) = .bar := by unfold role; exact if_pos rfl
theorem role_loc : role (.dma locS) = .loc := rfl
theorem role_snd (r : Fin 3) : role (.dma (sndS r)) = .snd r := by fin_cases r <;> rfl
theorem role_rcv (r : Fin 3) : role (.dma (rcvS r)) = .rcv r := by fin_cases r <;> rfl

/-- The credit of one block's copy, and of the copy that brings the input in. -/
abbrev N : ℕ := (blkM 0).view.dmaCredit
abbrev NL : ℕ := xM.view.dmaCredit
theorem N_pos : 0 < N := View.dmaCredit_pos _ (by decide)
theorem NL_pos : 0 < NL := View.dmaCredit_pos _ (by decide)
theorem credit_blk (b : Dev nD) : (blkM b).view.dmaCredit = N := rfl

/-! ## Contents -/

/-- The block of the input a device copies in, as the region finds it. -/
abbrev xin (c : Dev nD) : Vec F S64x128 .f32 := V m c main_v1

/-- Which block a row of the gather buffer belongs to, and where in it an entry is. -/
def blockOf (i : S512x64.Idx) : Dev nD := ⟨(i (0 : Fin 2)).val / 128, by
  have h : (i (0 : Fin 2)).val < 512 := (i (0 : Fin 2)).isLt
  show _ < 4; omega⟩
def inBlock (i : S512x64.Idx) : S128x64.Idx := fun a => ⟨(i a).val % S128x64.size a, Nat.mod_lt _ (by fin_cases a <;> decide)⟩

/-- What every gather buffer holds in the end: the four sorted blocks. -/
def gAll : S512x64.Idx → Elt F .bf16 := fun i => sortedOf (blockOf i) (xin m (blockOf i)) (inBlock i)

theorem gAll_at (b : Dev nD) (off : Fin 2 → Nat) (hoff : off = ![128 * b.val, 0]) (i : S512x64.Idx) (x : S128x64.Idx)
    (h : ∀ a, (i a).val = off a + (x a).val) : gAll m i = sortedOf b (xin m b) x := by
  subst hoff
  have h0 : (i (0 : Fin 2)).val = 128 * b.val + (x (0 : Fin 2)).val := h 0
  have h1 : (i (1 : Fin 2)).val = 0 + (x (1 : Fin 2)).val := h 1
  have hx : (x (0 : Fin 2)).val < 128 := (x (0 : Fin 2)).isLt
  have hy : (x (1 : Fin 2)).val < 64 := (x (1 : Fin 2)).isLt
  have hb : blockOf i = b := Fin.ext (by show (i (0 : Fin 2)).val / 128 = b.val; omega)
  have hi : inBlock i = x := by
    funext a
    apply Fin.ext
    fin_cases a
    · show (i (0 : Fin 2)).val % 128 = (x (0 : Fin 2)).val; omega
    · show (i (1 : Fin 2)).val % 64 = (x (1 : Fin 2)).val; omega
  unfold gAll
  rw [hb, hi]

/-- A row belongs to a block's rows exactly when the block is its own. -/
theorem mem_blk (b : Dev nD) (i : S512x64.Idx) : i ∈ (blkM b).view.set ↔ blockOf i = b := by
  have hv : (blkM b).view.set = (Rect.unit (s := S512x64) (k0_off2 b) S128x64.size (k0_off2_inb b)).set := View.set_slice_whole _ _
  rw [hv, Rect.mem_set_unit, k0_off2_eq]
  constructor
  · intro h
    have h0 : 128 * b.val ≤ (i (0 : Fin 2)).val ∧ (i (0 : Fin 2)).val < 128 * b.val + 128 := h 0
    exact Fin.ext (by show (i (0 : Fin 2)).val / 128 = b.val; omega)
  · rintro rfl a
    have hi : (i (0 : Fin 2)).val < 512 := (i (0 : Fin 2)).isLt
    have hj : (i (1 : Fin 2)).val < 64 := (i (1 : Fin 2)).isLt
    fin_cases a
    · show 128 * ((i (0 : Fin 2)).val / 128) ≤ (i (0 : Fin 2)).val ∧ (i (0 : Fin 2)).val < 128 * ((i (0 : Fin 2)).val / 128) + 128
      omega
    · show 0 ≤ (i (1 : Fin 2)).val ∧ (i (1 : Fin 2)).val < 0 + 64
      omega

/-! ## The buffers, held -/

/-- Block `b`'s rows of device `c`'s gather buffer, at share `q`. -/
abbrev gAt (c b : Dev nD) (q : PosShare TreeShare) (f : Buf (Elt F) ((c : Thread nD τ).loc cc0_scratch0)) : sProp 𝕄 :=
  (blkM b).view.loc (c : Thread nD τ) ↦[(blkM b).view.set]{q} f
abbrev xPts (c : Dev nD) (f : Buf (Elt F) ((c : Thread nD τ).loc cc0_scratch1)) : sProp 𝕄 :=
  xM.view.loc (c : Thread nD τ) ↦[xM.view.set]{fullShare} f
abbrev iPts (c : Dev nD) : sProp 𝕄 := iM.view.loc (c : Thread nD τ) ↦[iM.view.set]{fullShare} xin m c
abbrev oPts (c : Dev nD) (f : Buf (Elt F) ((c : Thread nD τ).loc cc0_stg0_0)) : sProp 𝕄 :=
  oM.view.loc (c : Thread nD τ) ↦[oM.view.set]{fullShare} f

/-! ## The schedule -/

/-- Paid to device `c` by its peer in pairing `r` when that one is ready: the rows of the peer's gather buffer that `c` will write,
and that the peer's receive cell stands at its round 0. -/
def barPay (c : Dev nD) (r : Fin 3) : sProp 𝕄 :=
  iprop((∃ f, gAt (F := F) (peer r c) c fullShare f) ∗ reached ER (rcvCell (peer r c) r) 0)
/-- Paid by the copy that lands: the peer's block in `c`'s gather buffer. -/
def rcvPay (c : Dev nD) (r : Fin 3) : sProp 𝕄 := gAt c (peer r c) fullShare (gAll m)
/-- Paid by the copy that has left: the share of the own block it read. -/
def sndPay (c : Dev nD) (r : Fin 3) : sProp 𝕄 := gAt c c (shares3 fullShare r) (gAll m)
/-- Paid by the copy that brings the input in. -/
def locPay (c : Dev nD) : sProp 𝕄 := iprop(xPts c (xin m c) ∗ iPts m c)

def dutiesOf : Role → Finset (Fin 3)
  | .bar => Finset.univ
  | .other => ∅
  | _ => {0}
def amountOf : Role → ℕ
  | .bar => 1
  | .loc => NL
  | _ => N
def payOf (c : Dev nD) (d : Fin 3) : Role → sProp 𝕄
  | .bar => barPay c d
  | .loc => locPay m c
  | .snd r => sndPay m c r
  | .rcv r => rcvPay m c r
  | .other => iprop(emp)

theorem amountOf_pos (ro : Role) : 0 < amountOf ro := by
  cases ro
  · exact Nat.one_pos
  · exact NL_pos
  all_goals exact N_pos

/-- One round: three duties on every barrier cell, one on every other cell of the protocol. -/
def rd : Rounds.Schedule (GSem nD τ sig) (Fin 3) 𝕄 where
  duties g r := if r = 0 ∧ g.1.2 = .tc then dutiesOf (role g.2) else ∅
  unitless _ := False
  amount g _ _ := amountOf (role g.2)
  payload g _ d := payOf m g.1.1 d (role g.2)
  amount_pos g _ _ _ := amountOf_pos _

instance rd_payload_storable (g : GSem nD τ sig) (r : ℕ) (d : Fin 3) :
    BI.Storable (upEmb : UEmb _ 𝕄) ((rd (F := F) m).payload g r d) := by
  show BI.Storable upEmb (payOf m g.1.1 d (role g.2))
  cases role g.2 <;> unfold payOf
  · unfold barPay; infer_instance
  · unfold locPay; infer_instance
  · unfold sndPay; infer_instance
  · unfold rcvPay; infer_instance
  · infer_instance

section Sched

variable (c : Dev nD) (r : Fin 3)

theorem duties_at (sm : SemLoc sig) : (rd (F := F) m).duties ((c : Thread nD τ), sm) 0 = dutiesOf (role sm) := by
  dsimp only [rd]; exact if_pos ⟨rfl, rfl⟩
theorem duties_bar : (rd (F := F) m).duties (barCell c) 0 = Finset.univ := by rw [duties_at, role_bar]; rfl
theorem duties_loc : (rd (F := F) m).duties (locCell c) 0 = {0} := by rw [duties_at, role_loc]; rfl
theorem duties_snd : (rd (F := F) m).duties (sndCell c r) 0 = {0} := by rw [duties_at, role_snd]; rfl
theorem duties_rcv : (rd (F := F) m).duties (rcvCell c r) 0 = {0} := by rw [duties_at, role_rcv]; rfl
theorem duties_later (g : GSem nD τ sig) : ∀ k, 1 ≤ k → (rd (F := F) m).duties g k = ∅ :=
  fun k hk => by dsimp only [rd]; exact if_neg fun h => by omega

theorem amount_bar (d : Fin 3) : (rd (F := F) m).amount (barCell c) 0 d = 1 := by dsimp only [rd]; rw [role_bar]; rfl
theorem amount_loc (d : Fin 3) : (rd (F := F) m).amount (locCell c) 0 d = NL := by dsimp only [rd]; rw [role_loc]; rfl
theorem amount_snd (d : Fin 3) : (rd (F := F) m).amount (sndCell c r) 0 d = N := by dsimp only [rd]; rw [role_snd]; rfl
theorem amount_rcv (d : Fin 3) : (rd (F := F) m).amount (rcvCell c r) 0 d = N := by dsimp only [rd]; rw [role_rcv]; rfl

theorem payload_bar (d : Fin 3) : (rd (F := F) m).payload (barCell c) 0 d = barPay c d := by
  dsimp only [rd]; rw [role_bar]; rfl
theorem payload_loc (d : Fin 3) : (rd (F := F) m).payload (locCell c) 0 d = locPay m c := by
  dsimp only [rd]; rw [role_loc]; rfl
theorem payload_snd (d : Fin 3) : (rd (F := F) m).payload (sndCell c r) 0 d = sndPay m c r := by
  dsimp only [rd]; rw [role_snd]; rfl
theorem payload_rcv (d : Fin 3) : (rd (F := F) m).payload (rcvCell c r) 0 d = rcvPay m c r := by
  dsimp only [rd]; rw [role_rcv]; rfl

theorem expect_bar : (rd (F := F) m).expect (barCell c) 0 = 3 := by
  unfold Schedule.expect Schedule.amountOf
  rw [duties_bar, Finset.sum_congr rfl fun d _ => amount_bar m c d, Finset.sum_const, Finset.card_univ]; rfl
theorem expect_loc : (rd (F := F) m).expect (locCell c) 0 = NL := by
  unfold Schedule.expect Schedule.amountOf; rw [duties_loc, Finset.sum_singleton, amount_loc]
theorem expect_snd : (rd (F := F) m).expect (sndCell c r) 0 = N := by
  unfold Schedule.expect Schedule.amountOf; rw [duties_snd, Finset.sum_singleton, amount_snd]
theorem expect_rcv : (rd (F := F) m).expect (rcvCell c r) 0 = N := by
  unfold Schedule.expect Schedule.amountOf; rw [duties_rcv, Finset.sum_singleton, amount_rcv]

/-- A family over the three pairings, as one big conjunction. -/
theorem tri_eq (Φ : Fin 3 → sProp 𝕄) : bigSep Finset.univ Φ = tri Φ :=
  bigSep_univ_eq_bigSepL [0, 1, 2] (by decide) (by decide) Φ

theorem rest_bar : bigSep ((rd (F := F) m).duties (barCell c) 0 \ ∅) (fun d => (rd (F := F) m).payload (barCell c) 0 d)
    = tri (fun d => barPay c d) := by
  rw [Finset.sdiff_empty, duties_bar, tri_eq]
  simp only [payload_bar]
theorem rest_loc : bigSep ((rd (F := F) m).duties (locCell c) 0 \ ∅) (fun d => (rd (F := F) m).payload (locCell c) 0 d) = locPay m c := by
  rw [Finset.sdiff_empty, duties_loc, bigSep_singleton, payload_loc]
theorem rest_snd : bigSep ((rd (F := F) m).duties (sndCell c r) 0 \ ∅) (fun d => (rd (F := F) m).payload (sndCell c r) 0 d) = sndPay m c r := by
  rw [Finset.sdiff_empty, duties_snd, bigSep_singleton, payload_snd]
theorem rest_rcv : bigSep ((rd (F := F) m).duties (rcvCell c r) 0 \ ∅) (fun d => (rd (F := F) m).payload (rcvCell c r) 0 d) = rcvPay m c r := by
  rw [Finset.sdiff_empty, duties_rcv, bigSep_singleton, payload_rcv]

end Sched

/-! ## What each device owes at launch; the levels -/

/-- The receive credit of the peer in pairing `r`; its barrier unit. -/
abbrev oweR (c : Dev nD) (r : Fin 3) : CellTallies nD τ sig Unit := tallyAt (rcvCell (peer r c) r) () N
abbrev oweB (c : Dev nD) (r : Fin 3) : CellTallies nD τ sig Unit := tallyAt (barCell (peer r c)) () 1

/-- What is owed once every signal is sent: the three copies. -/
def OR (c : Dev nD) : CellTallies nD τ sig Unit := oweR c 2 + oweR c 1 + oweR c 0
def O₀ (c : Dev nD) : CellTallies nD τ sig Unit := OR c + oweB c (relB c) + oweB c 2 + oweB c (relA c)

def L (g : GSem nD τ sig) : Finset Unit := if g.1.2 = .tc then {()} else ∅
def level : Role → ℕ
  | .bar => 1
  | .rcv _ => 2
  | _ => 0
/-- Barrier cells at 1, receive cells at 2, the rest at 0. -/
def lv (g : GSem nD τ sig) (_ : Unit) : ℕ := level (role g.2)

theorem L_of_ne (g : GSem nD τ sig) (h : g.1.2 ≠ .tc) : L g = ∅ := if_neg h
theorem L_tc (c : Dev nD) (sm : SemLoc sig) : L ((c : Thread nD τ), sm) = {()} := if_pos rfl

theorem tally_pos {g g' : GSem nD τ sig} {u : Unit} {k : ℕ} (h : 0 < (tallyAt g' () k : CellTallies nD τ sig Unit) g u) : g = g' := by
  rw [tallyAt_apply] at h
  by_contra hn
  rw [if_neg (fun h' => hn h'.1)] at h
  exact absurd h (Nat.lt_irrefl 0)

theorem OR_pos {c : Dev nD} {g : GSem nD τ sig} {u : Unit} (h : 0 < OR c g u) : ∃ r, g = rcvCell (peer r c) r := by
  unfold OR at h
  rw [Pi.add_apply, Finsupp.add_apply, Pi.add_apply, Finsupp.add_apply] at h
  rcases Nat.add_pos_iff_pos_or_pos.mp h with h | h
  · rcases Nat.add_pos_iff_pos_or_pos.mp h with h | h
    · exact ⟨2, tally_pos h⟩
    · exact ⟨1, tally_pos h⟩
  · exact ⟨0, tally_pos h⟩

theorem O₀_pos {c : Dev nD} {g : GSem nD τ sig} {u : Unit} (h : 0 < O₀ c g u) :
    (∃ r, g = rcvCell (peer r c) r) ∨ ∃ r, g = barCell (peer r c) := by
  unfold O₀ at h
  rw [Pi.add_apply, Finsupp.add_apply, Pi.add_apply, Finsupp.add_apply, Pi.add_apply, Finsupp.add_apply] at h
  rcases Nat.add_pos_iff_pos_or_pos.mp h with h | h
  · rcases Nat.add_pos_iff_pos_or_pos.mp h with h | h
    · rcases Nat.add_pos_iff_pos_or_pos.mp h with h | h
      · exact .inl (OR_pos h)
      · exact .inr ⟨_, tally_pos h⟩
    · exact .inr ⟨_, tally_pos h⟩
  · exact .inr ⟨_, tally_pos h⟩

/-- A cell that is no receive cell may be waited on while the three copies are owed. -/
theorem mayWait_OR (c : Dev nD) (sm : SemLoc sig) (hs : level (role sm) ≤ 1) :
    (levAts L lv : sProp 𝕄) ⊢ MayWait (c : Thread nD τ) sm () (OR c) :=
  MayOwe.of_cut (L := L) (lev := lv) 1 (fun p hp => by rw [Finset.mem_singleton.mp hp, L_tc]; exact Finset.mem_singleton_self _)
    (fun g u hg => by obtain ⟨r, rfl⟩ := OR_pos hg; rw [L_tc]; exact Finset.mem_singleton_self _)
    (fun p hp => by rw [Finset.mem_singleton.mp hp]; exact hs)
    (fun g u hg => by
      obtain ⟨r, rfl⟩ := OR_pos hg
      show 1 < level (role _); rw [role_rcv]; exact Nat.lt_succ_self 1)

/-! ## The protocol's ghost state -/

section Ghost

variable (K : GSem nD τ sig → ℕ) (c : Dev nD)

abbrev inv (g : GSem nD τ sig) : sProp 𝕄 := cellInv ER (rd m) (K g) g

/-- The invariants device `c` opens: its own eight cells', and its peers' barrier and receive cells'. -/
def invs : sProp 𝕄 :=
  iprop(inv m K (barCell c) ∗ inv m K (locCell c) ∗ tri (fun r => inv m K (sndCell c r)) ∗ tri (fun r => inv m K (rcvCell c r))
    ∗ tri (fun r => inv m K (barCell (peer r c))) ∗ tri (fun r => inv m K (rcvCell (peer r c) r)))

instance invs_persistent : BI.Persistent (invs m K c) := by unfold invs; infer_instance

/-- The tokens device `c` pays its peers with, and its own cells' copies. -/
def toks : sProp 𝕄 :=
  iprop(tri (fun r => dutyTok ER (barCell (peer r c)) 0 r) ∗ tri (fun r => dutyTok ER (rcvCell (peer r c) r) 0 0)
    ∗ tri (fun r => dutyTok ER (sndCell c r) 0 0) ∗ dutyTok ER (locCell c) 0 0)

/-- What device `c` carries from launch: the names, its position on its barrier cell, the rights to open its seven scoped cells,
that its peers' barrier cells stand at round 0, the tokens. -/
def ghost : sProp 𝕄 :=
  iprop(invs m K c ∗ atPos ER (barCell c) 0 ∅ 0
    ∗ openTok ER (locCell c) ∗ tri (fun r => openTok ER (sndCell c r)) ∗ tri (fun r => openTok ER (rcvCell c r))
    ∗ tri (fun r => reached ER (barCell (peer r c)) 0) ∗ toks c)

/-- The credit it waits with. -/
def creds : sProp 𝕄 := iprop(cred (tallyAt (barCell c) () 3) ∗ tri (fun r => cred (tallyAt (rcvCell c r) () N)))

/-- The ghost state once the scoped cells are open. -/
def opened : sProp 𝕄 :=
  iprop(invs m K c ∗ atPos ER (barCell c) 0 ∅ 0
    ∗ atPos ER (locCell c) 0 ∅ 0 ∗ tri (fun r => atPos ER (sndCell c r) 0 ∅ 0) ∗ tri (fun r => atPos ER (rcvCell c r) 0 ∅ 0)
    ∗ reached ER (locCell c) 0 ∗ tri (fun r => reached ER (sndCell c r) 0) ∗ tri (fun r => reached ER (rcvCell c r) 0)
    ∗ tri (fun r => reached ER (barCell (peer r c)) 0) ∗ toks c)

theorem close (κ : ℕ) (g : GSem nD τ sig) :
    iprop(cellInv ER (rd m) κ g ∗ atPos ER g (0 + 1) ∅ 0) ⊢ (|={Set.univ}=> semVal g 0 : sProp 𝕄) :=
  Rounds.cell_close ER (rd m) (Set.mem_univ κ) id (duties_later m g)

/-- The scoped cells open, each from its counter at zero. -/
theorem open_cell (κ : ℕ) (g : GSem nD τ sig) :
    iprop(cellInv ER (rd m) κ g ∗ openTok ER g ∗ semVal g 0)
      ⊢ (|={Set.univ}=> iprop(atPos ER g 0 ∅ 0 ∗ reached ER g 0) : sProp 𝕄) :=
  Rounds.cell_open ER (rd m) (g := g) (Set.mem_univ κ)

/-- Every counter of the seven scoped cells, at zero. -/
def scoped0 : sProp 𝕄 :=
  iprop(semVal (locCell c) 0 ∗ tri (fun r => semVal (sndCell c r) 0) ∗ tri (fun r => semVal (rcvCell c r) 0))

theorem open_tri (A : Fin 3 → GSem nD τ sig) :
    iprop(tri (fun r => inv m K (A r)) ∗ tri (fun r => openTok ER (A r)) ∗ tri (fun r => semVal (A r) 0))
      ⊢ (|={Set.univ}=> iprop(tri (fun r => atPos ER (A r) 0 ∅ 0) ∗ tri (fun r => reached ER (A r) 0)) : sProp 𝕄) := by
  iintro ⟨⟨#I0, #I1, #I2⟩, ⟨o0, o1, o2⟩, ⟨s0, s1, s2⟩⟩
  imod (open_cell m (K (A 0)) (A 0)) $$ [o0 s0] with ⟨a0, #r0⟩
  · isplitr; · iexact I0
    isplitl [o0] <;> iassumption
  imod (open_cell m (K (A 1)) (A 1)) $$ [o1 s1] with ⟨a1, #r1⟩
  · isplitr; · iexact I1
    isplitl [o1] <;> iassumption
  imod (open_cell m (K (A 2)) (A 2)) $$ [o2 s2] with ⟨a2, #r2⟩
  · isplitr; · iexact I2
    isplitl [o2] <;> iassumption
  imodintro
  isplitl [a0 a1 a2]
  · isplitl [a0]; · iexact a0
    isplitl [a1] <;> iassumption
  isplitr; · iexact r0
  isplitr <;> iassumption

theorem close_tri (A : Fin 3 → GSem nD τ sig) :
    iprop(tri (fun r => inv m K (A r)) ∗ tri (fun r => atPos ER (A r) (0 + 1) ∅ 0))
      ⊢ (|={Set.univ}=> tri (fun r => semVal (A r) 0) : sProp 𝕄) := by
  iintro ⟨⟨#I0, #I1, #I2⟩, ⟨a0, a1, a2⟩⟩
  imod (close m (K (A 0)) (A 0)) $$ [a0] with s0
  · isplitr; · iexact I0
    iexact a0
  imod (close m (K (A 1)) (A 1)) $$ [a1] with s1
  · isplitr; · iexact I1
    iexact a1
  imod (close m (K (A 2)) (A 2)) $$ [a2] with s2
  · isplitr; · iexact I2
    iexact a2
  imodintro
  isplitl [s0]; · iexact s0
  isplitl [s1] <;> iassumption

theorem open_all : iprop(ghost m K c ∗ scoped0 c) ⊢ (|={Set.univ}=> opened m K c : sProp 𝕄) := by
  unfold ghost scoped0 opened
  iintro ⟨⟨#HI, HaB, HoL, HoS, HoV, #HrB, Ht⟩, ⟨HsL, HsS, HsV⟩⟩
  unfold invs
  icases HI with ⟨#HIb, #HIl, #HIs, #HIv, #HIpb, #HIpv⟩
  imod (open_cell m (K (locCell c)) (locCell c)) $$ [HoL HsL] with ⟨HaL, #HrL⟩
  · isplitr; · iexact HIl
    isplitl [HoL] <;> iassumption
  imod (open_tri m K (fun r => sndCell c r)) $$ [HoS HsS] with ⟨HaS, #HrS⟩
  · isplitr; · iexact HIs
    isplitl [HoS] <;> iassumption
  imod (open_tri m K (fun r => rcvCell c r)) $$ [HoV HsV] with ⟨HaV, #HrV⟩
  · isplitr; · iexact HIv
    isplitl [HoV] <;> iassumption
  imodintro
  isplitr
  · isplitr; · iexact HIb
    isplitr; · iexact HIl
    isplitr; · iexact HIs
    isplitr; · iexact HIv
    isplitr; · iexact HIpb
    iexact HIpv
  isplitl [HaB]; · iexact HaB
  isplitl [HaL]; · iexact HaL
  isplitl [HaS]; · iexact HaS
  isplitl [HaV]; · iexact HaV
  isplitr; · iexact HrL
  isplitr; · iexact HrS
  isplitr; · iexact HrV
  isplitr; · iexact HrB
  iexact Ht

end Ghost

abbrev 𝒱₀ : Variants := Variants.none

end Cert.ColSort

end
-- ==== Proof.Body.lean ====
/-
# The body's run

The one symbolic run of the kernel's body on a device, over any float values: the signals, the copy in, the sort, the three sends,
the receives, the merges, the store of the result.
-/
module

public import proofs.«01_k».proof.Proof.Protocol

@[expose] public section

noncomputable section

namespace Cert.ColSort

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The gather buffer's rows -/

theorem off1_eq (c : Dev nD) : k0_off1 c = ![128 * c.val, 0] := k0_off1_eq c
theorem off3_eq (c : Dev nD) : k0_off3 c = ![128 * (peer 0 c).val, 0] := by revert c; decide +kernel

/-- The rectangle of a block's rows: its entries are those whose block it is. -/
theorem mem_rows (b : Dev nD) (off : Fin 2 → Nat) (inb) (hoff : off = ![128 * b.val, 0]) (i : S512x64.Idx) :
    i ∈ (Rect.unit (s := S512x64) off S128x64.size inb).set ↔ blockOf i = b := by
  subst hoff
  rw [Rect.mem_set_unit]
  constructor
  · intro h
    have h0 : 128 * b.val ≤ (i (0 : Fin 2)).val ∧ (i (0 : Fin 2)).val < 128 * b.val + 128 := h 0
    exact Fin.ext (by show (i (0 : Fin 2)).val / 128 = b.val; omega)
  · rintro rfl a
    have hi : (i (0 : Fin 2)).val < 512 := (i (0 : Fin 2)).isLt
    have hj : (i (1 : Fin 2)).val < 64 := (i (1 : Fin 2)).isLt
    fin_cases a
    · show 128 * ((i (0 : Fin 2)).val / 128) ≤ (i (0 : Fin 2)).val ∧ (i (0 : Fin 2)).val < 128 * ((i (0 : Fin 2)).val / 128) + 128
      omega
    · show 0 ≤ (i (1 : Fin 2)).val ∧ (i (1 : Fin 2)).val < 0 + 64
      omega

abbrev rect1 (c : Dev nD) : Rect S512x64 := Rect.unit (s := S512x64) (k0_off1 c) S128x64.size (k0_off1_inb c)
abbrev rect3 (c : Dev nD) : Rect S512x64 := Rect.unit (s := S512x64) (k0_off3 c) S128x64.size (k0_off3_inb c)
abbrev rect4 (c : Dev nD) : Rect S512x64 := Rect.unit (s := S512x64) (k0_off4 c) S256x64.size (k0_off4_inb c)

theorem set1 (c : Dev nD) : (gM.access (rect1 c)).set = (blkM c).view.set := by
  ext i
  rw [mem_blk]
  rw [show (gM.access (rect1 c)).set = (rect1 c).set from View.set_slice_whole _ _]
  exact mem_rows c _ _ (off1_eq c) i
theorem set3 (c : Dev nD) : (gM.access (rect3 c)).set = (blkM (peer 0 c)).view.set := by
  ext i
  rw [mem_blk]
  rw [show (gM.access (rect3 c)).set = (rect3 c).set from View.set_slice_whole _ _]
  exact mem_rows _ _ _ (off3_eq c) i
theorem set4 (c : Dev nD) : (gM.access (rect4 c)).set ⊆ (blkM (peer 1 c)).view.set ∪ (blkM (peer 2 c)).view.set := by
  intro i hi
  rw [show (gM.access (rect4 c)).set = (rect4 c).set from View.set_slice_whole _ _, Rect.mem_set_unit, k0_off4_eq] at hi
  rw [Finset.mem_union, mem_blk, mem_blk]
  have h0 : (if c.val ≥ 2 then 0 else 256) ≤ (i (0 : Fin 2)).val ∧ (i (0 : Fin 2)).val < (if c.val ≥ 2 then 0 else 256) + 256 := hi 0
  have hc : c.val < 4 := c.isLt
  have hb : (blockOf i).val = (i (0 : Fin 2)).val / 128 := rfl
  have h1 : (peer 1 c).val = 3 - c.val := rfl
  have h2 : (peer 2 c).val = (c.val + 2) % 4 := rfl
  split at h0
  · by_cases h : (blockOf i).val = 3 - c.val
    · exact .inl (Fin.ext (h.trans h1.symm))
    · exact .inr (Fin.ext (by rw [h2]; omega))
  · by_cases h : (blockOf i).val = 3 - c.val
    · exact .inl (Fin.ext (h.trans h1.symm))
    · exact .inr (Fin.ext (by rw [h2]; omega))

theorem blk_disjoint {b b' : Dev nD} (h : b ≠ b') : Disjoint (blkM b).view.set (blkM b').view.set := by
  rw [Finset.disjoint_left]
  intro i hi hi'
  exact h (((mem_blk b i).mp hi).symm.trans ((mem_blk b' i).mp hi'))

/-- The block stored, as the whole buffer's final contents. -/
theorem stored (c : Dev nD) (f : Buf (Elt F) ((c : Thread nD τ).loc cc0_scratch0)) (w : S128x64.Idx → Elt F .bf16)
    (hw : w = sortedOf c (xin m c)) :
    ∀ i ∈ (blkM c).view.set, (gM.access (rect1 c)).write (Elt F) f w Finset.univ i = gAll m i := by
  intro i hi
  rw [← set1] at hi
  obtain ⟨x, -, rfl⟩ := Finset.mem_map.mp hi
  rw [View.write_emb_of_mem _ _ (Finset.mem_univ x), hw]
  exact (gAll_at m c _ (off1_eq c) _ x (fun a => ValueKit.view_emb_slice_whole_unit_val cc0_scratch0 _ _ _ x a)).symm

/-- The block landed, likewise. -/
theorem landed (b : Dev nD) (f : S512x64.Idx → Elt F .bf16) :
    ∀ i ∈ (blkM b).view.set, (blkM b).view.write (Elt F) f ((blkM b).view.read (Elt F) (gAll m)) Finset.univ i = gAll m i := by
  intro i hi
  obtain ⟨x, -, rfl⟩ := Finset.mem_map.mp hi
  rw [View.write_emb_of_mem _ _ (Finset.mem_univ x), View.read_apply]
  rfl

theorem read_mate (c : Dev nD) : (gM.access (rect3 c)).read (Elt F) (gAll m) = sortedOf (peer 0 c) (xin m (peer 0 c)) := by
  funext x
  exact gAll_at m _ _ (off3_eq c) _ x (fun a => ValueKit.view_emb_slice_whole_unit_val cc0_scratch0 _ _ _ x a)

/-- The far pair's two blocks, as the device loads them. -/
def farOf (c : Dev nD) : S256x64.Idx → Elt F .bf16 := (gM.access (rect4 c)).read (Elt F) (gAll m)

/-- What device `c` stores as its result, transposed. -/
def resOf (c : Dev nD) : FVec F S64x128 .f32 :=
  outOf c (sortedOf c (xin m c)) (sortedOf (peer 0 c) (xin m (peer 0 c))) (farOf m c)

/-! ## The gather buffer, cut and joined -/

/-- The four devices, seen from one of them. -/
theorem devs_eq (c : Dev nD) (Φ : Dev nD → sProp 𝕄) :
    bigSep Finset.univ Φ = iprop(Φ c ∗ Φ (peer 0 c) ∗ Φ (peer 1 c) ∗ Φ (peer 2 c)) :=
  bigSep_univ_eq_bigSepL [c, peer 0 c, peer 1 c, peer 2 c] (by revert c; decide) (by revert c; decide) Φ

theorem cover : (Finset.univ : Finset S512x64.Idx) = Finset.univ.biUnion fun b : Dev nD => (blkM b).view.set := by
  ext i
  simp only [Finset.mem_univ, Finset.mem_biUnion, true_and, true_iff]
  exact ⟨blockOf i, (mem_blk _ i).mpr rfl⟩

theorem g_blocks (c : Dev nD) (f : Buf (Elt F) ((c : Thread nD τ).loc cc0_scratch0)) :
    (((c : Thread nD τ).loc cc0_scratch0) ↦{fullShare} f : sProp 𝕄)
      = iprop(gAt c c fullShare f ∗ tri (fun r => gAt c (peer r c) fullShare f)) := by
  have h : (((c : Thread nD τ).loc cc0_scratch0) ↦{fullShare} f : sProp 𝕄)
      = bigSep Finset.univ fun b : Dev nD => gAt c b fullShare f := by
    refine Eq.trans ?_ (pointsTo_biUnion (ℓ := (c : Thread nD τ).loc cc0_scratch0) (q := fullShare) (f := f) Finset.univ
      (fun b : Dev nD => (blkM b).view.set) (fun b _ b' _ hb => blk_disjoint hb))
    exact congrArg (fun S => (((c : Thread nD τ).loc cc0_scratch0) ↦[S]{fullShare} f : sProp 𝕄)) cover
  rw [h, devs_eq c]

theorem g_split (c : Dev nD) (f : Buf (Elt F) ((c : Thread nD τ).loc cc0_scratch0)) :
    (((c : Thread nD τ).loc cc0_scratch0) ↦{fullShare} f : sProp 𝕄)
      ⊢ iprop(gAt c c fullShare f ∗ tri (fun r => iprop(∃ f, gAt c (peer r c) fullShare f))) := by
  rw [g_blocks]
  iintro ⟨H, H0, H1, H2⟩
  isplitl [H]; · iexact H
  isplitl [H0]; · iexists f; iexact H0
  isplitl [H1]; · iexists f; iexact H1
  iexists f; iexact H2

/-! ## Reads and writes of the other buffers -/

theorem hz : (![0, 0] : Fin 2 → Nat) = fun _ => 0 := funext fun a => by fin_cases a <;> rfl
abbrev r0 : Rect S64x128 := Rect.unit (s := S64x128) ![0, 0] S64x128.size inb_S64x128_S64x128_0_0
theorem read_x (f : (cc0_scratch1 : Ref sig .tc).ty.Contents (Elt F)) : xM.view.readAt (Elt F) r0.toLoadRect f = f :=
  Memref.readAt_unit_zero (Elt F) cc0_scratch1 hz _ f
theorem write_out (f w : (cc0_stg0_0 : Ref sig .tc).ty.Contents (Elt F)) :
    (oM.access r0 : View sig .tc _ _ _).write (Elt F) f w Finset.univ = w :=
  Memref.write_access_unit_zero_univ (Elt F) cc0_stg0_0 hz _ f w
theorem copied (f : (cc0_scratch1 : Ref sig .tc).ty.Contents (Elt F)) (w : (main_v1 : Ref sig .tc).ty.Contents (Elt F)) :
    xM.view.write (Elt F) f (iM.view.read (Elt F) w) Finset.univ = w := by
  show (View.whole cc0_scratch1).write (Elt F) f ((View.whole main_v1).read (Elt F) w) Finset.univ = w
  rw [View.read_whole]; exact View.write_whole_univ _ _ _
theorem x_set : xM.view.set = Finset.univ := View.set_whole _
theorem i_set : iM.view.set = Finset.univ := View.set_whole _
theorem o_set : oM.view.set = Finset.univ := View.set_whole _

/-! ## The run -/

variable (K : GSem nD τ sig → ℕ)

/-- One of the three copies: the block, read at a share of it, into the same rows of the peer's gather buffer. -/
theorem send_blk (c p : Dev nD) (r : Fin 3) (hp : p = peer r c) (fd : Buf (Elt F) ((peer r c : Thread nD τ).loc cc0_scratch0))
    (O₁ O₂ : CellTallies nD τ sig Unit) (hO : O₁ = O₂ + oweR c r) (W : Waits sig Unit)
    {hsc} {hsrc} {hdst} {hsem} {α : Type} {Q : α → sProp 𝕄} {k : PUnit → Prog (TpuEff nD τ sig (Elt F) Λ₀ .tc) α} :
    iprop(inv m K (sndCell c r) ∗ inv m K (rcvCell (peer r c) r)
        ∗ gAt c c (shares3 fullShare r) (gAll m) ∗ gAt (peer r c) c fullShare fd ∗ owes (c : Thread nD τ) O₁ W
        ∗ dutyTok ER (sndCell c r) 0 0 ∗ reached ER (sndCell c r) 0
        ∗ dutyTok ER (rcvCell (peer r c) r) 0 0 ∗ reached ER (rcvCell (peer r c) r) 0)
      ⊢ iprop(((cred (tallyAt (sndCell c r) () N) ∗ owes (c : Thread nD τ) O₂ W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (blkM c) (.remote (p : Thread nD τ) (blkM c) (.dma (sndS r)) hsc) (.dma (rcvS r)) hsrc hdst hsem) k) Q) := by
  subst hp
  exact Rounds.wp_send_pointsTo 𝒱₀ ER (rd m) (c : Thread nD τ) none (c' := (peer r c : Thread nD τ)) (src := blkM c) (dst := blkM c)
    (sS := .dma (sndS r)) (sem := .dma (rcvS r)) (q := shares3 fullShare r) (fs := gAll m) (κ₁ := K (sndCell c r))
    (κ₂ := K (rcvCell (peer r c) r)) (r₁ := 0) (r₂ := 0) (d₁ := 0) (d₂ := 0) (fd := fd)
    (by rw [duties_snd]; exact Finset.mem_singleton_self _) (by rw [duties_rcv]; exact Finset.mem_singleton_self _)
    () () N (credit_blk c) (amount_snd m c r 0) (amount_rcv m (peer r c) r 0) O₂ hO (W := W)
    (by rw [payload_snd]; exact BI.Entails.refl _)
    (by rw [payload_rcv]; unfold rcvPay; rw [peer_peer]; exact Entails.of_eq (pointsTo_congr (landed m c fd)))

/-- A wait on a receive cell, nothing owed: the peer's block. -/
theorem wait_rcv (c : Dev nD) (r : Fin 3) (W : Waits sig Unit)
    {src dst : Memref sig .tc .vmem S128x64 .bf16} {hsrc : src.view.WordExact} {hdst : dst.view.WordExact} (hN : dst.view.dmaCredit = N)
    {α : Type} {Q : α → sProp 𝕄} {k : PUnit → Prog (TpuEff nD τ sig (Elt F) Λ₀ .tc) α} :
    iprop(inv m K (rcvCell c r) ∗ cred (tallyAt (rcvCell c r) () N) ∗ owes (c : Thread nD τ) 0 W ∗ atPos ER (rcvCell c r) 0 ∅ 0)
      ⊢ iprop(((owes (c : Thread nD τ) 0 (insert (SemLoc.dma (rcvS r), ()) W) ∗ atPos ER (rcvCell c r) (0 + 1) ∅ 0
            ∗ gAt c (peer r c) fullShare (gAll m)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (rcvS r) src dst hsrc hdst) k) Q) := by
  iintro ⟨#HI, Hc, HO, Hat⟩ Hk
  iapply (Rounds.wp_wait_rest_token 𝒱₀ ER (rd m) (c : Thread nD τ) none (κ := K (rcvCell c r))
      (wpE_waitDma2_eq 𝒱₀ (c : Thread nD τ) none Set.univ) (Set.mem_univ _) () (O := 0) (W := W) (R := 0) (m := 0) (T := ∅)
      (by rw [Nat.zero_add, hN, expect_rcv])) $$ [Hc HO Hat]
  · isplitr; · iexact HI
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq ((rest_rcv m c r).trans (by unfold rcvPay; rfl))); iexact Hpay

/-- A wait on a send cell, nothing owed: the share of the own block. -/
theorem wait_snd (c : Dev nD) (r : Fin 3) (W : Waits sig Unit)
    {src dst : Memref sig .tc .vmem S128x64 .bf16} {hsrc : src.view.WordExact} {hdst : dst.view.WordExact} (hN : dst.view.dmaCredit = N)
    {α : Type} {Q : α → sProp 𝕄} {k : PUnit → Prog (TpuEff nD τ sig (Elt F) Λ₀ .tc) α} :
    iprop(inv m K (sndCell c r) ∗ cred (tallyAt (sndCell c r) () N) ∗ owes (c : Thread nD τ) 0 W ∗ atPos ER (sndCell c r) 0 ∅ 0)
      ⊢ iprop(((owes (c : Thread nD τ) 0 (insert (SemLoc.dma (sndS r), ()) W) ∗ atPos ER (sndCell c r) (0 + 1) ∅ 0
            ∗ gAt c c (shares3 fullShare r) (gAll m)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sndS r) src dst hsrc hdst) k) Q) := by
  iintro ⟨#HI, Hc, HO, Hat⟩ Hk
  iapply (Rounds.wp_wait_rest_token 𝒱₀ ER (rd m) (c : Thread nD τ) none (κ := K (sndCell c r))
      (wpE_waitDma2_eq 𝒱₀ (c : Thread nD τ) none Set.univ) (Set.mem_univ _) () (O := 0) (W := W) (R := 0) (m := 0) (T := ∅)
      (by rw [Nat.zero_add, hN, expect_snd])) $$ [Hc HO Hat]
  · isplitr; · iexact HI
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq ((rest_snd m c r).trans (by unfold sndPay; rfl))); iexact Hpay

/-- A signal to the peer in pairing `r`: the rows of the own gather buffer it will write. -/
theorem signal_peer (c p : Dev nD) (r : Fin 3) (hp : p = peer r c) (O₂ : CellTallies nD τ sig Unit) (W : Waits sig Unit)
    {k' : ℕ} (hk' : k' = 1) {α : Type} {Q : α → sProp 𝕄} {k : PUnit → Prog (TpuEff nD τ sig (Elt F) Λ₀ .tc) α} :
    iprop(inv m K (barCell (peer r c)) ∗ owes (c : Thread nD τ) (O₂ + oweB c r) W ∗ dutyTok ER (barCell (peer r c)) 0 r
        ∗ (∃ f, gAt (F := F) c (peer r c) fullShare f) ∗ reached ER (rcvCell c r) 0 ∗ reached ER (barCell (peer r c)) 0)
      ⊢ iprop((owes (c : Thread nD τ) O₂ W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (p : Thread nD τ) barS k') k) Q) := by
  subst hp hk'
  iintro ⟨#HI, HO, Ht, Hg, #Hr, #Hb⟩ Hk
  iapply (Rounds.wp_signal 𝒱₀ ER (rd m) (c : Thread nD τ) none (dst := (peer r c : Thread nD τ)) (sem := barS) (r := 0) (d := r)
      (κ := K (barCell (peer r c))) (by rw [duties_bar]; exact Finset.mem_univ _) (amount_bar m (peer r c) r) () O₂ rfl) $$ [HO Ht Hg]
  · isplitr; · iexact HI
    isplitl [HO]; · iexact HO
    isplitl [Ht]; · iexact Ht
    isplitl [Hg]
    · rw [payload_bar]; unfold barPay; rw [peer_peer]
      isplitl [Hg]; · iexact Hg
      iexact Hr
    · iexact Hb
  iexact Hk

theorem far_ne (c : Dev nD) : peer 1 c ≠ peer 2 c := by revert c; decide

/-- Rows of device `c`'s gather buffer, at its final contents. -/
abbrev gRows (c : Dev nD) (S : Finset S512x64.Idx) : sProp 𝕄 :=
  (blkM c).view.loc (c : Thread nD τ) ↦[S]{fullShare} (gAll m : Buf (Elt F) ((c : Thread nD τ).loc cc0_scratch0))

/-- The far pair's blocks, together. -/
theorem far_join (c : Dev nD) :
    iprop(gRows m c (blkM (peer 1 c)).view.set ∗ gRows m c (blkM (peer 2 c)).view.set)
      ⊢ gRows m c ((blkM (peer 1 c)).view.set ∪ (blkM (peer 2 c)).view.set) :=
  (pointsTo_union (blk_disjoint (far_ne c))).2
theorem far_cut (c : Dev nD) :
    gRows m c ((blkM (peer 1 c)).view.set ∪ (blkM (peer 2 c)).view.set)
      ⊢ iprop(gRows m c (blkM (peer 1 c)).view.set ∗ gRows m c (blkM (peer 2 c)).view.set) :=
  (pointsTo_union (blk_disjoint (far_ne c))).1

/-- What the body starts from. -/
def talkPre (c : Dev nD) (W : Waits sig Unit) : sProp 𝕄 :=
  iprop(opened m K c ∗ creds c ∗ levAts L lv
    ∗ (∃ f, ((c : Thread nD τ).loc cc0_scratch0) ↦{fullShare} f) ∗ (∃ f, xPts c f) ∗ iPts m c ∗ (∃ f, oPts c f)
    ∗ owes (c : Thread nD τ) (O₀ c) W)

/-- What it ends in: every counter back at zero, the buffers back, the result in its place, nothing owed. -/
def talkPost (c : Dev nD) : sProp 𝕄 :=
  iprop(semVal (barCell c) 0 ∗ scoped0 c
    ∗ (∃ f, ((c : Thread nD τ).loc cc0_scratch0) ↦{fullShare} f) ∗ (∃ f, xPts (F := F) c f) ∗ iPts m c ∗ oPts c (resOf m c)
    ∗ ∃ W, owes (c : Thread nD τ) (0 : CellTallies nD τ sig Unit) W)

set_option maxRecDepth 20000 in
set_option maxHeartbeats 4000000 in
theorem run (c : Dev nD) (W : Waits sig Unit) (Kt : PUnit → sProp 𝕄) :
    iprop(talkPre m K c W ∗ (talkPost m c -∗ Kt ⟨⟩))
      ⊢ wp frame (wpE (defs₀ (F := F)) 𝒱₀ c none) Set.univ
          (cc0_body iM (Memref.isWhole_whole _) oM (Memref.isWhole_whole _) gM (Memref.isWhole_whole _) xM (Memref.isWhole_whole _) cc0_scratch2 cc0_scratch3 cc0_scratch4) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton, k0_part24_eq_skeleton,
    k0_part25_eq_skeleton, k0_part26_eq_skeleton]
  unfold k0_part1_skel k0_part2_skel k0_part3_skel k0_part4_skel k0_part5_skel k0_part6_skel k0_part7_skel k0_part8_skel k0_part9_skel k0_part10_skel
    k0_part11_skel k0_part12_skel k0_part13_skel k0_part14_skel k0_part15_skel k0_part16_skel k0_part17_skel k0_part18_skel k0_part19_skel
    k0_part20_skel k0_part21_skel k0_part22_skel k0_part23_skel k0_part24_skel k0_part25_skel k0_part26_skel
  simp only [semSignalWord, semWaitWord, Prog.lift, Prog.bind_op, Prog.bind_ret, Prog.pure_eq_ret, Prog.bind_assoc, wp_deviceId]
  unfold talkPre opened invs creds toks
  iintro ⟨⟨⟨⟨#HIb, #HIl, ⟨#HIs0, #HIs1, #HIs2⟩, ⟨#HIv0, #HIv1, #HIv2⟩, #HIpb, ⟨#HIpv0, #HIpv1, #HIpv2⟩⟩, HaB, HaL, ⟨HaS0, HaS1, HaS2⟩, ⟨HaV0, HaV1, HaV2⟩,
      #HrL, ⟨#HrS0, #HrS1, #HrS2⟩, #HrV, #HrB, HtB, ⟨HtV0, HtV1, HtV2⟩, ⟨HtS0, HtS1, HtS2⟩, HtL⟩, ⟨HcB, ⟨HcV0, HcV1, HcV2⟩⟩, #Hlev,
      ⟨%g0, Hg⟩, ⟨%x0, Hx⟩, Hi, ⟨%o0, Ho⟩, HO⟩, Hk⟩
  -- the gather buffer cut into its four blocks; the families in the order in which the kernel signals
  ihave Hg2 := (g_split c g0) $$ Hg
  icases Hg2 with ⟨Hg, Hgp⟩
  ihave Hgp2 := (tri_order (fun r => iprop(∃ f, gAt c (peer r c) fullShare f)) c) $$ Hgp
  icases Hgp2 with ⟨HgA, Hg2, HgB⟩
  ihave HtB2 := (tri_order (fun r => dutyTok ER (barCell (peer r c)) 0 r) c) $$ HtB
  icases HtB2 with ⟨HtBA, HtB2, HtBB⟩
  ihave #HIp2 := (tri_order (fun r => inv m K (barCell (peer r c))) c) $$ HIpb
  icases HIp2 with ⟨#HIpA, #HIp2, #HIpB⟩
  ihave #HrB2 := (tri_order (fun r => reached ER (barCell (peer r c)) 0) c) $$ HrB
  icases HrB2 with ⟨#HrBA, #HrB2, #HrBB⟩
  ihave #HrVo := (tri_order (fun r => reached ER (rcvCell c r) 0) c) $$ HrV
  icases HrVo with ⟨#HrVA, #HrV2, #HrVB⟩
  -- the three signals
  unfold O₀
  iapply (signal_peer m K c _ (relA c) (dev1_eq c) (OR c + oweB c (relB c) + oweB c 2) W (by decide)) $$ [HO HtBA HgA]
  · isplitr; · iexact HIpA
    isplitl [HO]; · iexact HO
    isplitl [HtBA]; · iexact HtBA
    isplitl [HgA]; · iexact HgA
    isplitr; · iexact HrVA
    iexact HrBA
  iintro HO
  iapply (signal_peer m K c _ 2 (dev2_eq c) (OR c + oweB c (relB c)) W (by decide)) $$ [HO HtB2 Hg2]
  · isplitr; · iexact HIp2
    isplitl [HO]; · iexact HO
    isplitl [HtB2]; · iexact HtB2
    isplitl [Hg2]; · iexact Hg2
    isplitr; · iexact HrV2
    iexact HrB2
  iintro HO
  iapply (signal_peer m K c _ (relB c) (dev3_eq c) (OR c) W (by decide)) $$ [HO HtBB HgB]
  · isplitr; · iexact HIpB
    isplitl [HO]; · iexact HO
    isplitl [HtBB]; · iexact HtBB
    isplitl [HgB]; · iexact HgB
    isplitr; · iexact HrVB
    iexact HrBB
  iintro HO
  -- the copy in
  iapply (Rounds.wp_copy_pointsTo 𝒱₀ ER (rd m) (c : Thread nD τ) none (src := iM) (dst := xM) (sem := .dma locS) (q := fullShare)
      (fs := xin m c) (fd := x0) (r := 0) (d := 0) (κ := K (locCell c))
      (by rw [duties_loc]; exact Finset.mem_singleton_self _) () NL rfl (amount_loc m c 0)
      (by rw [payload_loc]; unfold locPay; rw [copied x0 (xin m c)])) $$ [Hi Hx HtL]
  · isplitr; · iexact HIl
    isplitl [Hi]; · iexact Hi
    isplitl [Hx]; · iexact Hx
    isplitl [HtL]; · iexact HtL
    iexact HrL
  iintro HcL
  iapply (Rounds.wp_wait_rest_token 𝒱₀ ER (rd m) (c : Thread nD τ) none (κ := K (locCell c))
      (wpE_waitDma2_eq 𝒱₀ (c : Thread nD τ) none Set.univ) (Set.mem_univ _) () (O := OR c) (W := W) (R := 0) (m := 0) (T := ∅)
      ((Nat.zero_add _).trans (expect_loc m c).symm)) $$ [HcL HO HaL]
  · isplitr; · iexact HIl
    isplitl [HcL]; · iexact HcL
    isplitl [HO]; · iexact HO
    isplitr; · iapply (mayWait_OR c (.dma locS) (by decide)); iexact Hlev
    iexact HaL
  iintro ⟨HO, HaL, -, Hpay⟩
  ihave Hp := (Entails.of_eq (rest_loc m c)) $$ Hpay
  unfold locPay
  icases Hp with ⟨Hx, Hi⟩
  iapply (wp_load 𝒱₀ (c : Thread nD τ) none Set.univ (m := xM) (by rw [x_set]; exact Finset.subset_univ _)) $$ Hx; iintro Hx
  rw [read_x]
  -- the sorted block stored
  iapply (wp_load_rect 𝒱₀ (c : Thread nD τ) none Set.univ (m := gM) (r := rect1 c) (by rw [set1])) $$ Hg; iintro Hg
  iapply (wp_store 𝒱₀ (c : Thread nD τ) none Set.univ (m := gM) (r := rect1 c) (Mk := Finset.univ)
    (by rw [View.setOn_univ, set1])) $$ Hg; iintro Hg
  ihave Hg := (Entails.of_eq (pointsTo_congr (stored m c g0 _ ((shapeCast_self _ _).trans rfl)))) $$ Hg
  ihave Hg3 := (pointsTo_thirds fullShare (gAll m)).1 $$ Hg
  icases Hg3 with ⟨HgS0, HgS1, HgS2⟩
  -- the three peers are ready
  iapply (Rounds.wp_wait_rest_token 𝒱₀ ER (rd m) (c : Thread nD τ) none (κ := K (barCell c))
      (wpE_semWait_eq 𝒱₀ (c : Thread nD τ) none Set.univ) (Set.mem_univ _) () (O := OR c) (W := insert (SemLoc.dma locS, ()) W) (R := 0) (m := 0)
      (T := ∅) ((Nat.zero_add _).trans (expect_bar m c).symm)) $$ [HcB HO HaB]
  · isplitr; · iexact HIb
    isplitl [HcB]; · iexact HcB
    isplitl [HO]; · iexact HO
    isplitr; · iapply (mayWait_OR c (.reg barS) (by rw [role_bar]; decide)); iexact Hlev
    iexact HaB
  iintro ⟨HO, HaB, -, Hpay⟩
  ihave Hp := (Entails.of_eq (rest_bar m c)) $$ Hpay
  unfold barPay
  icases Hp with ⟨⟨⟨%f0, HP0⟩, #HrP0⟩, ⟨⟨%f1, HP1⟩, #HrP1⟩, ⟨%f2, HP2⟩, #HrP2⟩
  -- the three sends
  unfold OR
  iapply (send_blk m K c _ 0 (dev4_eq c) f0 _ (oweR c 2 + oweR c 1) rfl _) $$ [HgS0 HP0 HO HtS0 HtV0]
  · isplitr; · iexact HIs0
    isplitr; · iexact HIpv0
    isplitl [HgS0]; · iexact HgS0
    isplitl [HP0]; · iexact HP0
    isplitl [HO]; · iexact HO
    isplitl [HtS0]; · iexact HtS0
    isplitr; · iexact HrS0
    isplitl [HtV0]; · iexact HtV0
    iexact HrP0
  iintro ⟨HcS0, HO⟩
  iapply (send_blk m K c _ 1 (dev5_eq c) f1 _ (oweR c 2) rfl _) $$ [HgS1 HP1 HO HtS1 HtV1]
  · isplitr; · iexact HIs1
    isplitr; · iexact HIpv1
    isplitl [HgS1]; · iexact HgS1
    isplitl [HP1]; · iexact HP1
    isplitl [HO]; · iexact HO
    isplitl [HtS1]; · iexact HtS1
    isplitr; · iexact HrS1
    isplitl [HtV1]; · iexact HtV1
    iexact HrP1
  iintro ⟨HcS1, HO⟩
  iapply (send_blk m K c _ 2 (dev6_eq c) f2 _ 0 (zero_add _).symm _) $$ [HgS2 HP2 HO HtS2 HtV2]
  · isplitr; · iexact HIs2
    isplitr; · iexact HIpv2
    isplitl [HgS2]; · iexact HgS2
    isplitl [HP2]; · iexact HP2
    isplitl [HO]; · iexact HO
    isplitl [HtS2]; · iexact HtS2
    isplitr; · iexact HrS2
    isplitl [HtV2]; · iexact HtV2
    iexact HrP2
  iintro ⟨HcS2, HO⟩
  -- the mate's block
  iapply (wait_rcv m K c 0 _ (credit_blk c)) $$ [HcV0 HO HaV0]
  · isplitr; · iexact HIv0
    isplitl [HcV0]; · iexact HcV0
    isplitl [HO]; · iexact HO
    iexact HaV0
  iintro ⟨HO, HaV0, HM⟩
  iapply (wp_load_rect 𝒱₀ (c : Thread nD τ) none Set.univ (m := gM) (r := rect3 c) (by rw [set3])) $$ HM; iintro HM
  rw [read_mate]
  -- the far pair's two
  iapply (wait_rcv m K c 1 _ (credit_blk c)) $$ [HcV1 HO HaV1]
  · isplitr; · iexact HIv1
    isplitl [HcV1]; · iexact HcV1
    isplitl [HO]; · iexact HO
    iexact HaV1
  iintro ⟨HO, HaV1, HF1⟩
  iapply (wait_rcv m K c 2 _ (credit_blk c)) $$ [HcV2 HO HaV2]
  · isplitr; · iexact HIv2
    isplitl [HcV2]; · iexact HcV2
    isplitl [HO]; · iexact HO
    iexact HaV2
  iintro ⟨HO, HaV2, HF2⟩
  ihave HF := (far_join m c) $$ [HF1 HF2]
  · isplitl [HF1]; · iexact HF1
    iexact HF2
  iapply (wp_load_rect 𝒱₀ (c : Thread nD τ) none Set.univ (m := gM) (r := rect4 c) (set4 c)) $$ HF; iintro HF
  -- the result stored
  iapply (wp_load 𝒱₀ (c : Thread nD τ) none Set.univ (m := oM) (by rw [o_set]; exact Finset.subset_univ _)) $$ Ho; iintro Ho
  iapply (wp_store 𝒱₀ (c : Thread nD τ) none Set.univ (m := oM) (r := r0) (Mk := Finset.univ) (by rw [o_set]; exact Finset.subset_univ _)) $$ Ho
  iintro Ho
  rw [write_out]
  -- the own block's three shares back
  iapply (wait_snd m K c 0 _ (credit_blk c)) $$ [HcS0 HO HaS0]
  · isplitr; · iexact HIs0
    isplitl [HcS0]; · iexact HcS0
    isplitl [HO]; · iexact HO
    iexact HaS0
  iintro ⟨HO, HaS0, HG0⟩
  iapply (wait_snd m K c 1 _ (credit_blk c)) $$ [HcS1 HO HaS1]
  · isplitr; · iexact HIs1
    isplitl [HcS1]; · iexact HcS1
    isplitl [HO]; · iexact HO
    iexact HaS1
  iintro ⟨HO, HaS1, HG1⟩
  iapply (wait_snd m K c 2 _ (credit_blk c)) $$ [HcS2 HO HaS2]
  · isplitr; · iexact HIs2
    isplitl [HcS2]; · iexact HcS2
    isplitl [HO]; · iexact HO
    iexact HaS2
  iintro ⟨HO, HaS2, HG2⟩
  rw [wp_ret]
  -- every cell closed
  imod (close m (K (barCell c)) (barCell c)) $$ [HaB] with Hb0
  · isplitr; · iexact HIb
    iexact HaB
  imod (close m (K (locCell c)) (locCell c)) $$ [HaL] with Hl0
  · isplitr; · iexact HIl
    iexact HaL
  imod (close_tri m K (fun r => sndCell c r)) $$ [HaS0 HaS1 HaS2] with Hs0
  · isplitr
    · isplitr; · iexact HIs0
      isplitr; · iexact HIs1
      iexact HIs2
    · isplitl [HaS0]; · iexact HaS0
      isplitl [HaS1]; · iexact HaS1
      iexact HaS2
  imod (close_tri m K (fun r => rcvCell c r)) $$ [HaV0 HaV1 HaV2] with Hv0
  · isplitr
    · isplitr; · iexact HIv0
      isplitr; · iexact HIv1
      iexact HIv2
    · isplitl [HaV0]; · iexact HaV0
      isplitl [HaV1]; · iexact HaV1
      iexact HaV2
  imodintro
  iapply Hk
  unfold talkPost scoped0
  isplitl [Hb0]; · iexact Hb0
  isplitl [Hl0 Hs0 Hv0]
  · isplitl [Hl0]; · iexact Hl0
    isplitl [Hs0]; · iexact Hs0
    iexact Hv0
  isplitl [HG0 HG1 HG2 HM HF]
  · iexists gAll m
    rw [g_blocks]
    ihave HF2 := (far_cut m c) $$ HF
    icases HF2 with ⟨HF1, HF2⟩
    isplitl [HG0 HG1 HG2]
    · iapply (pointsTo_thirds fullShare (gAll m)).2
      isplitl [HG0]; · iexact HG0
      isplitl [HG1]; · iexact HG1
      iexact HG2
    isplitl [HM]; · iexact HM
    isplitl [HF1]; · iexact HF1
    iexact HF2
  isplitl [Hx]; · iexists _; iexact Hx
  isplitl [Hi]; · iexact Hi
  isplitl [Ho]
  · iexact Ho
  iexists _; iexact HO
end Cert.ColSort

end
-- ==== Proof.Region.lean ====
/-
# The region and the host lines around it

The kernel's region as one segment of the program, between the transpose that feeds it and the one that returns its result.
-/
module

public import proofs.«01_k».proof.Proof.Body

@[expose] public section

noncomputable section

namespace Cert.ColSort

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Buffers held -/

abbrev pt (c : Dev nD) (b : Ref sig .tc) (f : b.ty.Contents (Elt F)) : sProp 𝕄 := (((c : Thread nD τ).loc b) ↦{fullShare} f)
abbrev dref (b : Ref sig .tc) : DevRef τ sig := Proc.devRef .tc b

/-- The program's own arrays; those the region is handed beside its result's. -/
def bufs : Finset (DevRef τ sig) := Pipeline.ucRefs τ sig
def rest : Finset (DevRef τ sig) := {dref main_arg0, dref main_v1, dref main_v3}
def addressed : Finset (DevRef τ sig) := {dref main_v1}

theorem bufs_eq (c : Dev nD) (W : Valuation τ sig (Elt F)) : (StableHlo.held (c : Thread nD τ) bufs W : sProp 𝕄)
    = iprop(pt c main_arg0 (W main_arg0) ∗ pt c main_v1 (W main_v1) ∗ pt c main_v2 (W main_v2) ∗ pt c main_v3 (W main_v3)) := by
  unfold StableHlo.held
  rw [bigSep_eq_bigSepL_of_eq [dref main_arg0, dref main_v1, dref main_v2, dref main_v3] (by decide) (by decide)]
  rfl
theorem rest_eq (c : Dev nD) (W : Valuation τ sig (Elt F)) : (StableHlo.held (c : Thread nD τ) rest W : sProp 𝕄)
    = iprop(pt c main_arg0 (W main_arg0) ∗ pt c main_v1 (W main_v1) ∗ pt c main_v3 (W main_v3)) := by
  unfold StableHlo.held
  rw [bigSep_eq_bigSepL_of_eq [dref main_arg0, dref main_v1, dref main_v3] (by decide) (by decide)]
  rfl
theorem addressed_eq (c : Dev nD) (W : Valuation τ sig (Elt F)) : (StableHlo.held (c : Thread nD τ) addressed W : sProp 𝕄)
    = pt c main_v1 (W main_v1) := by
  unfold StableHlo.held
  rw [bigSep_eq_bigSepL_of_eq [dref main_v1] (by decide) (by decide)]
  rfl
theorem arr_eq (c : Dev nD) (W : Valuation τ sig (Elt F)) :
    (StableHlo.held (c : Thread nD τ) (Pipeline.arrRefs (τ := τ) (pcfgs (F := F) 0).spec) W : sProp 𝕄) = pt c main_v2 (W main_v2) := by
  unfold StableHlo.held
  rw [bigSep_eq_bigSepL_of_eq [dref main_v2] (show Pipeline.arrRefs (τ := τ) spec0 = [dref main_v2].toFinset by decide) (by decide)]
  rfl

/-! ## The kernel's own semaphores -/

abbrev osem : Fin 7 → SemLoc sig
  | 0 => .dma locS
  | 1 => .dma (sndS 0) | 2 => .dma (sndS 1) | 3 => .dma (sndS 2)
  | 4 => .dma (rcvS 0) | 5 => .dma (rcvS 1) | 6 => .dma (rcvS 2)

theorem sems_eq (c : Dev nD) (Φ : GSem nD τ sig → sProp 𝕄) : (bigSep Finset.univ fun k : Fin 7 => Φ ((c : Thread nD τ), osem k))
    = iprop(Φ (locCell c) ∗ (Φ (sndCell c 0) ∗ Φ (sndCell c 1) ∗ Φ (sndCell c 2))
      ∗ (Φ (rcvCell c 0) ∗ Φ (rcvCell c 1) ∗ Φ (rcvCell c 2))) := by
  rw [bigSep_univ_eq_bigSepL [0, 1, 2, 3, 4, 5, 6] (by decide) (by decide)]
  have h1 (A B C D E G H : sProp 𝕄) : iprop(A ∗ B ∗ C ∗ D ∗ E ∗ G ∗ H) = iprop(A ∗ (B ∗ C ∗ D) ∗ (E ∗ G ∗ H)) := by
    have h3 (P Q R : sProp 𝕄) : iprop((P ∗ Q) ∗ R) = iprop(P ∗ Q ∗ R) := BI.equiv_iff.mp ⟨BI.sep_assoc, BI.sep_assoc'⟩
    rw [h3, h3]
  exact h1 _ _ _ _ _ _ _

theorem ownSems_eq (c : Dev nD) : (Pipeline.ownSems0 osem c : sProp 𝕄) = scoped0 c :=
  sems_eq c fun g => (semVal g 0 : sProp 𝕄)

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-! ## The region's proof data -/

/-- What the launch kept for the region; what the region's invariant starts and ends with. -/
def Tk (c : Dev nD) : sProp 𝕄 := iprop((∃ K, ghost m K c) ∗ creds c)
def Xk (c : Dev nD) : sProp 𝕄 := iprop((∃ K, opened m K c) ∗ creds c ∗ levAts L lv)
def Yk (c : Dev nD) : sProp 𝕄 := semVal (barCell c) 0
def scr (c : Dev nD) : sProp 𝕄 :=
  iprop((∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)
def Φa (c : Dev nD) : sProp 𝕄 := iprop(Xk m c ∗ pt c main_v1 (xin m c) ∗ scr (F := F) c ∗ ∃ r, prngReg c r)
def Φb (c : Dev nD) : sProp 𝕄 := iprop((Yk c ∗ scoped0 c) ∗ pt c main_v1 (xin m c) ∗ scr (F := F) c ∗ ∃ r, prngReg c r)

def dat (c : Dev nD) : Dat τ (Elt F) Unit ℕ UU ℕ cfg0 c where
  A w := V m c (Pipeline.arrRef spec0 w)
  after w _ := match w with | ⟨0, _⟩ => resOf m c
  Φ t := if t.val = 0 then Φa m c else Φb m c
  q _ := fullShare
  owed t := if t.val = 0 then O₀ c else 0

abbrev adm : (p : Fin 1) → (pcfgs (F := F) p).Adm := fun p => (cfgs p).toPCfg_adm
def pdats (_ : Fin 1) (c : Dev nD) : Dat τ (Elt F) Unit ℕ UU ℕ cfg0 c := dat m c

theorem owed_first (c : Dev nD) : (dat m c).owed t0_0.castSucc = O₀ c := by
  show (if (t0_0.castSucc : Fin (cfg0.N + 1)).val = 0 then O₀ c else 0) = O₀ c; exact if_pos rfl
theorem owed_last (c : Dev nD) : (dat m c).owed t0_0.succ = 0 := by
  show (if (t0_0.succ : Fin (cfg0.N + 1)).val = 0 then O₀ c else 0) = 0; exact if_neg (by decide)

theorem owesAt_intro (c : Dev nD) (t : Fin (cfg0.N + 1)) (O : CellTallies nD τ sig Unit) (h0 : (dat m c).owed t = O) (W : Waits sig Unit) :
    (owes (c : Thread nD τ) O W : sProp 𝕄) ⊢ ((dat m c).owesAt () t : sProp 𝕄) := by
  unfold Dat.owesAt Pipeline.owesWithin Dat.bound; rw [h0]
  iintro HO; iexists W; isplitr; · ipureintro; exact fun _ _ => Or.inl trivial
  iexact HO
theorem owesAt_elim (c : Dev nD) (t : Fin (cfg0.N + 1)) (O : CellTallies nD τ sig Unit) (h0 : (dat m c).owed t = O) :
    ((dat m c).owesAt () t : sProp 𝕄) ⊢ iprop(∃ W, owes (c : Thread nD τ) O W) := by
  unfold Dat.owesAt Pipeline.owesWithin; rw [h0]
  iintro ⟨%W, -, HO⟩; iexists W; iexact HO

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ pt c b f) := by
  unfold owns; simp only [Memref.view_whole, View.read_whole, View.set_whole]

theorem xPts_eq (c : Dev nD) (f : Buf (Elt F) ((c : Thread nD τ).loc cc0_scratch1)) : (xPts c f : sProp 𝕄) = pt c cc0_scratch1 f := by
  unfold xPts; rw [x_set]
theorem iPts_eq (c : Dev nD) : (iPts m c : sProp 𝕄) = pt c main_v1 (xin m c) := by unfold iPts; rw [i_set]
theorem oPts_eq (c : Dev nD) (f : Buf (Elt F) ((c : Thread nD τ).loc cc0_stg0_0)) : (oPts c f : sProp 𝕄) = pt c cc0_stg0_0 f := by
  unfold oPts; rw [o_set]

/-- The body's obligation: the run. -/
theorem body_ok (c : Dev nD) : BodyObligation (dat m c) (defs₀ (F := F)) 𝒱₀ () Set.univ := fun t => by
  obtain rfl := fin_N0 t
  rw [bigSep_W0, bigSep_W0]
  rw [show (dat m c).Φ t0_0.castSucc = Φa m c from rfl, show (dat m c).Φ t0_0.succ = Φb m c from rfl]
  show iprop(Φa m c ∗ (dat m c).owesAt () t0_0.castSucc
      ∗ ∃ d, owns (c : Thread nD τ) (Memref.whole cc0_stg0_0) fullShare ((dat m c).before (0 : Fin 1) t0_0 d))
    ⊢ wp frame (wpE (defs₀ (F := F)) 𝒱₀ c none) Set.univ
        (cc0_body iM (Memref.isWhole_whole _) oM (Memref.isWhole_whole _) gM (Memref.isWhole_whole _) xM (Memref.isWhole_whole _) cc0_scratch2 cc0_scratch3 cc0_scratch4)
        (fun _ => iprop(Φb m c ∗ (dat m c).owesAt () t0_0.succ ∗ owns (c : Thread nD τ) (Memref.whole cc0_stg0_0) fullShare (resOf m c)))
  simp only [owns_whole_eq]
  unfold Φa Φb Xk Yk scr
  iintro ⟨⟨⟨⟨%K, Hg⟩, Hc, Hlev⟩, Hi, ⟨Hs, ⟨%x0, Hx⟩⟩, Hreg⟩, HO, ⟨%d, %o0, -, Ho⟩⟩
  ihave HO' := (owesAt_elim m c _ (O₀ c) (owed_first m c)) $$ HO
  icases HO' with ⟨%W, HO⟩
  iapply (run m K c W _)
  isplitl [Hg Hc Hlev Hi Hs Hx HO Ho]
  · unfold talkPre
    isplitl [Hg]; · iexact Hg
    isplitl [Hc]; · iexact Hc
    isplitl [Hlev]; · iexact Hlev
    isplitl [Hs]; · iexact Hs
    isplitl [Hx]; · iexists x0; rw [xPts_eq]; iexact Hx
    isplitl [Hi]; · rw [iPts_eq]; iexact Hi
    isplitl [Ho]; · iexists o0; rw [oPts_eq]; iexact Ho
    iexact HO
  unfold talkPost
  iintro ⟨Hb0, Hs0, Hg, ⟨%x1, Hx⟩, Hi, Ho, ⟨%W', HO⟩⟩
  isplitr [HO Ho]
  · isplitl [Hb0 Hs0]
    · isplitl [Hb0] <;> iassumption
    isplitl [Hi]; · iapply (Entails.of_eq (iPts_eq m c)); iexact Hi
    isplitl [Hg Hx]
    · isplitl [Hg]; · iexact Hg
      iexists x1; iapply (Entails.of_eq (xPts_eq (F := F) c x1)); iexact Hx
    iexact Hreg
  isplitl [HO]; · iapply (owesAt_intro m c t0_0.succ 0 (owed_last m c) W'); iexact HO
  iexists (resOf m c)
  isplitr; · (ipureintro; rfl)
  iapply (Entails.of_eq (oPts_eq (F := F) c _)); iexact Ho

/-! ## The valuations -/

/-- After the region: the result in its array; after the last transpose. -/
def V1 (c : Dev nD) : Valuation τ sig (Elt F) := Function.update (V0 m c) (dref main_v2) ((dat m c).arrAt (0 : Fin 1) cfg0.N)
def V2 (c : Dev nD) : Valuation τ sig (Elt F) := StableHlo.after hostOps1 (V1 m c)

theorem V1_v2 (c : Dev nD) : V1 m c main_v2 = (dat m c).arrAt (0 : Fin 1) cfg0.N := Function.update_self _ _ _
theorem V1_ne (c : Dev nD) (b : DevRef τ sig) (h : b ≠ dref main_v2) : V1 m c b = V0 m c b := Function.update_of_ne h _ _

theorem blk_read (c : Dev nD) (t : Fin cfg0.N) (G : Buf (Elt F) ((c : Thread nD τ).loc main_v2)) :
    ((cfg0.win (0 : Fin 1)).blk t).view.read (Elt F) G = G := by
  obtain rfl := fin_N0 t
  funext y
  refine congrArg G (funext fun a => Fin.ext ?_)
  refine (ValueKit.view_emb_slice_whole_unit_val main_v2 _ _ _ y a).trans ?_
  show win0_0.index t0_0 a * win0_0.size a + (y a).val = (y a).val
  have e : win0_0.index t0_0 a = 0 := rfl
  rw [e]; omega
theorem arr_final (c : Dev nD) : (dat m c).arrAt (0 : Fin 1) cfg0.N = resOf m c := by
  refine (dat m c).arrAt_eq_of_cover (0 : Fin 1) (resOf m c) (fun t _ => ?_) (fun i => ⟨t0_0, flush0_0 _, ?_⟩)
  · rw [blk_read c t (resOf m c)]
    rfl
  · show i ∈ ((View.whole main_v2).slice (win0_0.rect t0_0)).set
    rw [View.set_slice_whole, Rect.mem_set_unit]
    intro a
    have e : win0_0.index t0_0 a = 0 := rfl
    show win0_0.index t0_0 a * win0_0.size a ≤ (i a).val ∧ (i a).val < win0_0.index t0_0 a * win0_0.size a + win0_0.size a
    rw [e, Nat.zero_mul, Nat.zero_add]
    exact ⟨Nat.zero_le _, (i a).isLt⟩

/-! ## The region's segment -/

theorem enter (c : Dev nD) : iprop(Tk m c ∗ Pipeline.ownSems0 osem c ∗ levAts L lv) ⊢ (|={Set.univ}=> Xk m c : sProp 𝕄) := by
  rw [ownSems_eq]
  unfold Tk Xk
  iintro ⟨⟨⟨%K, Hg⟩, Hc⟩, Hs, #Hlev⟩
  imod (open_all m K c) $$ [Hg Hs] with H
  · isplitl [Hg] <;> iassumption
  imodintro
  isplitl [H]; · iexists K; iexact H
  isplitl [Hc]; · iexact Hc
  iexact Hlev

theorem enter_inv (c : Dev nD) : iprop(Pipeline.scopedRest (Pipeline.pin (pcfgs (F := F)) adm 0).spec c ∗ (∃ r, prngReg c r)
      ∗ StableHlo.held (c : Thread nD τ) addressed (V0 m c) ∗ Xk m c) ⊢ (pdats m 0 c).Φ 0 := by
  rw [show (pdats m 0 c).Φ 0 = Φa m c from rfl, scopedRest0_eq, addressed_eq]
  unfold Φa scr
  iintro ⟨Hs, Hp, Hi, HX⟩
  isplitl [HX]; · iexact HX
  isplitl [Hi]; · iexact Hi
  isplitl [Hs]; · iexact Hs
  iexact Hp

theorem leave_inv (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c : Thread nD τ) addressed (V1 m c) ∗ Pipeline.ownSems0 osem c ∗ Yk c) := by
  rw [show (pdats m 0 c).Φ (Fin.last _) = Φb m c from rfl, scopedRest0_eq, addressed_eq, ownSems_eq, V1_ne m c _ (by decide)]
  unfold Φb scr
  iintro ⟨⟨Hb, Hs0⟩, Hi, Hs, Hp⟩
  isplitl [Hs]; · iexact Hs
  isplitl [Hp]; · iexact Hp
  isplitl [Hi]; · iexact Hi
  isplitl [Hs0]; · iexact Hs0
  iexact Hb

theorem cut (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · rcases O₀_pos h with ⟨r, rfl⟩ | ⟨r, rfl⟩
    · exact ⟨by rw [L_tc]; exact Finset.mem_singleton_self _, by show 0 < level (role _); rw [role_rcv]; exact Nat.zero_lt_two⟩
    · exact ⟨by rw [L_tc]; exact Finset.mem_singleton_self _, by show 0 < level (role _); rw [role_bar]; decide⟩
  · exact absurd h (Nat.lt_irrefl 0)

theorem stg_level : level (role (SemLoc.dma (sem0_0 0))) = 0 := by decide

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    addressed rest (by decide) launch0.toP rfl (fun c => (body_ok m c).loose)
    (fun _ => 0) O₀ (fun c => (show (dat m c).owed 0 = O₀ c from owed_first m c).trans (zero_add _).symm) (fun c => owed_last m c) (fun _ => rfl)
    (fun c w => by unfold Dat.share; split <;> rfl)
    (V0 m) (V1 m) (fun c b hb => V1_ne m c b (fun h => absurd hb (by rw [h]; decide)))
    (Tk m) Yk (Xk m) Yk (enter m) (enter_inv m) (leave_inv m)
    (fun c => by iintro H; imodintro; iexact H)
    (fun _ => 0)
    ⟨fun c w s => by rw [L_tc]; exact Finset.mem_singleton_self _, fun c w s => by obtain rfl : w = (0 : Fin 1) := Subsingleton.elim _ _; exact le_of_eq stg_level, fun c t g i h => cut m c t g i h⟩
    (fun _ => iprop(emp))
    (fun c w => by obtain rfl : w = (0 : Fin 1) := Subsingleton.elim _ _; rfl)
    (fun c w => by obtain rfl : w = (0 : Fin 1) := Subsingleton.elim _ _; exact (V1_v2 m c).symm)

end Cert.ColSort

end
-- ==== Proof.Launch.lean ====
/-
# The program's run

The launch: every cell's invariant made, the tokens dealt to the devices that pay with them, the launch's credit read off; then the
program as two host lines around the region, and what every finished run leaves.
-/
module

public import proofs.«01_k».proof.Proof.Region

@[expose] public section

noncomputable section

namespace Cert.ColSort

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The program's segments -/

/-- The memory at the start, as one device's valuation. -/
def Vm (c : Dev nD) : Valuation τ sig (Elt F) := fun b => m (c, b)

theorem in_bufs {ops : List (HloOp τ sig (Elt F))} (h : ops.Forall fun op => op.bufs ⊆ StableHlo.tcRefs τ sig) :
    ∀ op ∈ ops, op.bufs ⊆ (bufs : Finset (DevRef τ sig)) := fun op hop =>
  Pipeline.sub_ucRefs op (List.forall_iff_forall_mem.mp h op hop)

/-- What a device carries beside its arrays, before the region and after it. -/
def R (c : Dev nD) : sProp 𝕄 := iprop(Tk m c ∗ (∃ r, prngReg c r) ∗ ∃ W, owes (c : Thread nD τ) (O₀ c) W)
def R' (c : Dev nD) : sProp 𝕄 := iprop(Yk c ∗ ∃ W, owes (c : Thread nD τ) (0 : CellTallies nD τ sig Unit) W)

def seg0 : Pipeline.HostSeg (Ix := Unit) (Name := ℕ) (U := UU) (Lvl := ℕ) (pcfgs (F := F)) defs₀ 𝒱₀ L lv :=
  Pipeline.HostSeg.ofOps _ _ _ _ _ bufs hostOps0 (in_bufs hostOps0_sub) (List.forall_iff_forall_mem.mp hostOps0_fresh) (Vm m) (R m)
def seg1 : Pipeline.HostSeg (Ix := Unit) (Name := ℕ) (U := UU) (Lvl := ℕ) (pcfgs (F := F)) defs₀ 𝒱₀ L lv :=
  Pipeline.HostSeg.ofOps _ _ _ _ _ bufs hostOps1 (in_bufs hostOps1_sub) (List.forall_iff_forall_mem.mp hostOps1_fresh) (V1 m) R'

def segs : List (Pipeline.Seg (pcfgs (F := F)) adm (pdats m) () defs₀ 𝒱₀ L lv) := [.host (seg0 m), .region (reg0 m), .host (seg1 m)]

theorem main_eq (c : Dev nD) : main (F := F) c = Pipeline.Seg.run (segs m) :=
  main_segs adm (pdats m) () 𝒱₀ L lv (seg0 m) (seg1 m) (reg0 m) rfl rfl c

theorem into_region (c : Dev nD) : iprop(StableHlo.held (c : Thread nD τ) bufs (V0 m c) ∗ R m c) ⊢ (reg0 m).pre c := by
  show _ ⊢ iprop(StableHlo.held (c : Thread nD τ) (Pipeline.arrRefs (τ := τ) (pcfgs (F := F) 0).spec) (V0 m c) ∗ (∃ r, prngReg c r)
    ∗ (StableHlo.held (c : Thread nD τ) rest (V0 m c) ∗ emp) ∗ Tk m c ∗ ∃ Wd, owes (c : Thread nD τ) (0 + O₀ c) Wd)
  rw [zero_add, arr_eq, rest_eq, bufs_eq]
  unfold R
  iintro ⟨⟨H0, H1, H2, H3⟩, HT, Hp, HO⟩
  isplitl [H2]; · iexact H2
  isplitl [Hp]; · iexact Hp
  isplitl [H0 H1 H3]
  · isplitl [H0 H1 H3]
    · isplitl [H0]; · iexact H0
      isplitl [H1] <;> iassumption
    iempintro
  isplitl [HT] <;> iassumption

theorem from_region (c : Dev nD) : (reg0 m).post c ⊢ iprop(StableHlo.held (c : Thread nD τ) bufs (V1 m c) ∗ R' c) := by
  show iprop(StableHlo.held (c : Thread nD τ) (Pipeline.arrRefs (τ := τ) (pcfgs (F := F) 0).spec) (V1 m c) ∗ (∃ r, prngReg c r)
    ∗ (StableHlo.held (c : Thread nD τ) rest (V1 m c) ∗ emp) ∗ Yk c ∗ ∃ Wd, owes (c : Thread nD τ) (0 : CellTallies nD τ sig Unit) Wd) ⊢ _
  rw [arr_eq, rest_eq, bufs_eq]
  unfold R'
  iintro ⟨H2, -, ⟨⟨H0, H1, H3⟩, -⟩, Hb, HO⟩
  isplitl [H0 H1 H2 H3]
  · isplitl [H0]; · iexact H0
    isplitl [H1]; · iexact H1
    isplitl [H2] <;> iassumption
  isplitl [Hb] <;> iassumption

/-! ## The cells and the tokens -/

theorem osem_inj : Function.Injective osem := by decide
theorem osem_ne_bar : ∀ k : Fin 7, osem k ≠ .reg barS := by decide

def barEmb : Dev nD ↪ GSem nD τ sig := ⟨fun c => barCell c, fun _ _ h => congrArg (fun g : GSem nD τ sig => g.1.1) h⟩
def scEmb : Dev nD × Fin 7 ↪ GSem nD τ sig :=
  ⟨fun ck => ((ck.1 : Thread nD τ), osem ck.2), fun _ _ h =>
    Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb

theorem cells_disjoint : Disjoint (barCells : Finset (GSem nD τ sig)) scCells := by
  rw [Finset.disjoint_left]
  intro g h₁ h₂
  obtain ⟨c, -, rfl⟩ := Finset.mem_map.mp h₁
  obtain ⟨ck, -, h⟩ := Finset.mem_map.mp h₂
  exact osem_ne_bar ck.2 (congrArg Prod.snd h)

theorem mem_bar (c : Dev nD) : barCell c ∈ (barCells ∪ scCells : Finset (GSem nD τ sig)) :=
  Finset.mem_union_left _ (Finset.mem_map_of_mem barEmb (Finset.mem_univ c))
theorem mem_sc (c : Dev nD) (k : Fin 7) : ((c : Thread nD τ), osem k) ∈ (barCells ∪ scCells : Finset (GSem nD τ sig)) :=
  Finset.mem_union_right _ (Finset.mem_map_of_mem scEmb (Finset.mem_univ (c, k)))
theorem mem_loc (c : Dev nD) : locCell c ∈ (barCells ∪ scCells : Finset (GSem nD τ sig)) := mem_sc c 0
theorem mem_snd (c : Dev nD) : ∀ r : Fin 3, sndCell c r ∈ (barCells ∪ scCells : Finset (GSem nD τ sig))
  | 0 => mem_sc c 1 | 1 => mem_sc c 2 | 2 => mem_sc c 3
theorem mem_rcv (c : Dev nD) : ∀ r : Fin 3, rcvCell c r ∈ (barCells ∪ scCells : Finset (GSem nD τ sig))
  | 0 => mem_sc c 4 | 1 => mem_sc c 5 | 2 => mem_sc c 6

/-- The tokens by their cell's semaphore and their duty: a barrier's three, then one on every other cell. -/
abbrev tsem : Fin 10 → SemLoc sig
  | 0 => .reg barS | 1 => .reg barS | 2 => .reg barS
  | 3 => .dma (rcvS 0) | 4 => .dma (rcvS 1) | 5 => .dma (rcvS 2)
  | 6 => .dma (sndS 0) | 7 => .dma (sndS 1) | 8 => .dma (sndS 2)
  | 9 => .dma locS
abbrev tduty : Fin 10 → Fin 3
  | 1 => 1 | 2 => 2 | _ => 0
theorem tk_inj : Function.Injective fun k : Fin 10 => (tsem k, tduty k) := by decide
def tokSet : Finset (GSem nD τ sig × ℕ × Fin 3) :=
  Finset.univ.map ⟨fun ck : Dev nD × Fin 10 => (((ck.1 : Thread nD τ), tsem ck.2), 0, tduty ck.2), fun _ _ h =>
    Prod.ext (congrArg (fun t : GSem nD τ sig × ℕ × Fin 3 => t.1.1.1) h)
      (tk_inj (Prod.ext (congrArg (fun t : GSem nD τ sig × ℕ × Fin 3 => t.1.2) h) (congrArg (fun t : GSem nD τ sig × ℕ × Fin 3 => t.2.2) h)))⟩

/-- The launch's element: the staging protocol's beside this protocol's. -/
def u₀ : UU :=
  (initOf (Pipeline.cells (Pipeline.pin (pcfgs (F := F)) adm) cellOf_inj) (Pipeline.launchToks (Pipeline.pin (pcfgs (F := F)) adm) cellOf_inj),
    launchOf barCells scCells tokSet)

/-- This protocol's element, given to the first device until the cells are made. -/
def G (c : Dev nD) : sProp 𝕄 := if c = 0 then BI.own (ER (launchOf barCells scCells tokSet)) else iprop(emp)
theorem G_all : bigSep Finset.univ (G (F := F)) = BI.own (ER (launchOf barCells scCells tokSet)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- What every device may read: the invariants, and that each barrier has reached its round. -/
def records (κ : GSem nD τ sig → ℕ) : sProp 𝕄 :=
  iprop((bigSep (barCells ∪ scCells) fun g => cellInv ER (rd m) (κ g) g) ∗ bigSep barCells fun g => reached ER g 0)
instance records_persistent (κ : GSem nD τ sig → ℕ) : BI.Persistent (records m κ) := by unfold records; infer_instance

theorem inv_of (κ : GSem nD τ sig → ℕ) {g : GSem nD τ sig} (hg : g ∈ (barCells ∪ scCells : Finset (GSem nD τ sig))) :
    records m κ ⊢ inv m κ g := by
  have h : (bigSep (barCells ∪ scCells) fun g => (cellInv ER (rd m) (κ g) g : sProp 𝕄)) ⊢ cellInv ER (rd m) (κ g) g := bigSep_elim hg
  unfold records inv
  iintro ⟨#H, -⟩
  iapply h; iexact H
theorem reached_of (κ : GSem nD τ sig → ℕ) (c : Dev nD) : records m κ ⊢ reached ER (barCell c) 0 := by
  have h : (bigSep barCells fun g => (reached ER g 0 : sProp 𝕄)) ⊢ reached ER (barCell c) 0 :=
    bigSep_elim (Finset.mem_map_of_mem barEmb (Finset.mem_univ c))
  unfold records
  iintro ⟨-, #H⟩
  iapply h; iexact H
theorem tri_of (κ : GSem nD τ sig → ℕ) {Φ : Fin 3 → sProp 𝕄} (h : ∀ r, records m κ ⊢ Φ r) : records m κ ⊢ tri Φ := by
  unfold tri
  iintro #H
  isplitr; · iapply (h 0); iexact H
  isplitr; · iapply (h 1); iexact H
  iapply (h 2); iexact H

theorem invs_of (κ : GSem nD τ sig → ℕ) (c : Dev nD) : records m κ ⊢ invs m κ c := by
  unfold invs
  iintro #H
  isplitr; · iapply (inv_of m κ (mem_bar c)); iexact H
  isplitr; · iapply (inv_of m κ (mem_loc c)); iexact H
  isplitr; · iapply (tri_of m κ fun r => inv_of m κ (mem_snd c r)); iexact H
  isplitr; · iapply (tri_of m κ fun r => inv_of m κ (mem_rcv c r)); iexact H
  isplitr; · iapply (tri_of m κ fun r => inv_of m κ (mem_bar (peer r c))); iexact H
  iapply (tri_of m κ fun r => inv_of m κ (mem_rcv (peer r c) r)); iexact H

/-- What stays with one device. -/
def opens (c : Dev nD) : sProp 𝕄 := iprop(openTok ER (locCell c)
  ∗ (openTok ER (sndCell c 0) ∗ openTok ER (sndCell c 1) ∗ openTok ER (sndCell c 2))
  ∗ (openTok ER (rcvCell c 0) ∗ openTok ER (rcvCell c 1) ∗ openTok ER (rcvCell c 2)))
def linear (c : Dev nD) : sProp 𝕄 := iprop(atPos ER (barCell c) 0 ∅ 0 ∗ opens c ∗ toks c)

theorem ghost_intro (κ : GSem nD τ sig → ℕ) (c : Dev nD) : iprop(records m κ ∗ linear c) ⊢ iprop(∃ K, ghost m K c) := by
  unfold linear ghost opens
  iintro ⟨#HR, Ha, ⟨Hl, Hs, Hr⟩, Ht⟩
  iexists κ
  isplitr; · iapply (invs_of m κ c); iexact HR
  isplitl [Ha]; · iexact Ha
  isplitl [Hl]; · iexact Hl
  isplitl [Hs]; · iexact Hs
  isplitl [Hr]; · iexact Hr
  isplitr; · iapply (tri_of m κ fun r => reached_of m κ (peer r c)); iexact HR
  iexact Ht

/-! ## Dealing the tokens -/

def dealt (c : Dev nD) : sProp 𝕄 :=
  iprop(tri (fun r => dutyTok ER (barCell c) 0 r) ∗ tri (fun r => dutyTok ER (rcvCell c r) 0 0) ∗ tri (fun r => dutyTok ER (sndCell c r) 0 0)
    ∗ dutyTok ER (locCell c) 0 0)

theorem toks_eq : bigSep tokSet (fun x => (dutyTok ER x.1 x.2.1 x.2.2 : sProp 𝕄)) = bigSep Finset.univ fun c : Dev nD => dealt c := by
  unfold tokSet; rw [bigSep_map, bigSep_univ_prod]
  refine bigSep_congr fun c _ => ?_
  rw [bigSep_univ_eq_bigSepL [0, 1, 2, 3, 4, 5, 6, 7, 8, 9] (by decide) (by decide)]
  unfold dealt tri
  have h3 (P Q R : sProp 𝕄) : iprop((P ∗ Q) ∗ R) = iprop(P ∗ Q ∗ R) := BI.equiv_iff.mp ⟨BI.sep_assoc, BI.sep_assoc'⟩
  simp only [h3]
  rfl

theorem peer_bij (r : Fin 3) : Function.Bijective (peer r) := Function.Involutive.bijective (peer_peer r)

/-- Each of three families handed across the pairing it belongs to. -/
theorem tri_across (Φ : Dev nD → Fin 3 → sProp 𝕄) :
    (bigSep Finset.univ fun c : Dev nD => tri (Φ c)) = bigSep Finset.univ fun c : Dev nD => tri fun r => Φ (peer r c) r := by
  unfold tri
  rw [bigSep_sep', bigSep_sep', bigSep_sep', bigSep_sep', bigSep_univ_equiv (Equiv.ofBijective _ (peer_bij 0)) (fun c => Φ c 0),
    bigSep_univ_equiv (Equiv.ofBijective _ (peer_bij 1)) (fun c => Φ c 1), bigSep_univ_equiv (Equiv.ofBijective _ (peer_bij 2)) (fun c => Φ c 2)]
  rfl

theorem deal : (bigSep Finset.univ fun c : Dev nD => (dealt c : sProp 𝕄)) = bigSep Finset.univ fun c : Dev nD => toks c := by
  have h4 (A B C D : Dev nD → sProp 𝕄) : (bigSep Finset.univ fun c : Dev nD => iprop(A c ∗ B c ∗ C c ∗ D c))
      = iprop(bigSep Finset.univ A ∗ bigSep Finset.univ B ∗ bigSep Finset.univ C ∗ bigSep Finset.univ D) := by
    rw [bigSep_sep', bigSep_sep', bigSep_sep']
  unfold dealt toks
  refine (h4 _ _ _ _).trans (Eq.trans ?_ (h4 _ _ _ _).symm)
  rw [tri_across (fun c r => (dutyTok ER (barCell c) 0 r : sProp 𝕄)), tri_across (fun c r => (dutyTok ER (rcvCell c r) 0 0 : sProp 𝕄))]

/-! ## The launch's credit -/

theorem oweB_bar (d c : Dev nD) (r : Fin 3) : oweB d r (barCell c) () = if d = peer r c then 1 else 0 := by
  unfold oweB
  rw [tallyAt_apply]
  by_cases h : d = peer r c
  · subst h; rw [peer_peer, if_pos ⟨rfl, rfl⟩, if_pos rfl]
  · have hn : ¬ (barCell c = barCell (peer r d) ∧ () = ()) := fun ⟨h1, _⟩ => h
      ((peer_peer r d).symm.trans (congrArg (peer r) (congrArg (fun g : GSem nD τ sig => g.1.1) h1).symm))
    rw [if_neg hn, if_neg h]
theorem oweB_rcv (d c : Dev nD) (r r' : Fin 3) : oweB d r (rcvCell c r') () = 0 := by
  unfold oweB
  rw [tallyAt_ne_cell (fun h => by have := congrArg Prod.snd h; cases this)]; rfl
theorem oweR_bar (d c : Dev nD) (r : Fin 3) : oweR d r (barCell c) () = 0 := by
  unfold oweR
  rw [tallyAt_ne_cell (fun h => by have := congrArg Prod.snd h; cases this)]; rfl
theorem rcvS_inj : Function.Injective rcvS := by decide
theorem oweR_rcv (d c : Dev nD) (r r' : Fin 3) : oweR d r (rcvCell c r') () = if r = r' ∧ d = peer r c then N else 0 := by
  unfold oweR
  rw [tallyAt_apply]
  by_cases h : r = r' ∧ d = peer r c
  · obtain ⟨rfl, rfl⟩ := h; rw [peer_peer, if_pos ⟨rfl, rfl⟩, if_pos ⟨rfl, rfl⟩]
  · have hn : ¬ (rcvCell c r' = rcvCell (peer r d) r ∧ () = ()) := fun ⟨h1, _⟩ => by
      have h3 : r = r' := (rcvS_inj (by injection congrArg Prod.snd h1)).symm
      subst h3
      exact h ⟨rfl, (peer_peer r d).symm.trans (congrArg (peer r) (congrArg (fun g : GSem nD τ sig => g.1.1) h1).symm)⟩
    rw [if_neg hn, if_neg h]

theorem sum_bar (c : Dev nD) : (∑ d : Dev nD, ((if d = peer (relB d) c then 1 else 0) + (if d = peer 2 c then 1 else 0) + (if d = peer (relA d) c then 1 else 0) : ℕ)) = 3 := by
  revert c; decide +kernel

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, ← sum_bar c]
  refine Finset.sum_congr rfl fun d _ => ?_
  show oweR d 2 (barCell c) () + oweR d 1 (barCell c) () + oweR d 0 (barCell c) () + oweB d (relB d) (barCell c) () + oweB d 2 (barCell c) ()
    + oweB d (relA d) (barCell c) () = _
  rw [oweR_bar d c 2, oweR_bar d c 1, oweR_bar d c 0, oweB_bar, oweB_bar, oweB_bar, Nat.zero_add]

theorem launch_rcv (c : Dev nD) (r : Fin 3) :
    tallyOn (rcvCell c r) (launchCredit (Pipeline.owing O₀) 0 (rcvCell c r)) = (tallyAt (rcvCell c r) () N : CellTallies nD τ sig Unit) := by
  unfold tallyAt; refine congrArg _ (Finsupp.ext fun u => ?_); cases u
  rw [Pipeline.launchCredit_owing, Finsupp.single_eq_same]
  have h (d : Dev nD) : O₀ d (rcvCell c r) () = if d = peer r c then N else 0 := by
    show oweR d 2 (rcvCell c r) () + oweR d 1 (rcvCell c r) () + oweR d 0 (rcvCell c r) () + oweB d (relB d) (rcvCell c r) ()
      + oweB d 2 (rcvCell c r) () + oweB d (relA d) (rcvCell c r) () = _
    rw [oweR_rcv d c 2, oweR_rcv d c 1, oweR_rcv d c 0, oweB_rcv, oweB_rcv, oweB_rcv]
    fin_cases r <;> simp
  rw [Finset.sum_congr rfl fun d _ => h d, Finset.sum_ite_eq' Finset.univ (peer r c) fun _ => N, if_pos (Finset.mem_univ _)]

theorem creds_of (c : Dev nD) : (Pipeline.launchCred O₀ c : sProp 𝕄) ⊢ creds c := by
  show _ ⊢ iprop(cred (tallyAt (barCell c) () 3) ∗ cred (tallyAt (rcvCell c 0) () N) ∗ cred (tallyAt (rcvCell c 1) () N) ∗ cred (tallyAt (rcvCell c 2) () N))
  unfold Pipeline.launchCred
  rw [← launch_bar, ← launch_rcv, ← launch_rcv, ← launch_rcv]
  refine (bigSep_subset (Finset.subset_univ ({SemLoc.reg barS, SemLoc.dma (rcvS 0), SemLoc.dma (rcvS 1), SemLoc.dma (rcvS 2)} : Finset (SemLoc sig)))).trans ?_
  rw [bigSep_eq_bigSepL_of_eq [SemLoc.reg barS, SemLoc.dma (rcvS 0), SemLoc.dma (rcvS 1), SemLoc.dma (rcvS 2)] (by decide) (by decide)]
  exact BI.Entails.refl _

/-! ## The run -/

abbrev T₀ (c : Dev nD) : sProp 𝕄 := iprop(StableHlo.held (c : Thread nD τ) bufs (Vm m c) ∗ R m c)
abbrev Tₙ (c : Dev nD) : sProp 𝕄 := iprop(StableHlo.held (c : Thread nD τ) bufs (V2 m c) ∗ semVal (barCell c) 0)

/-- What a device has at the launch beside the protocol's own state. -/
def bundle (c : Dev nD) : sProp 𝕄 :=
  iprop(StableHlo.held (c : Thread nD τ) bufs (Vm m c) ∗ creds c ∗ owes (c : Thread nD τ) (O₀ c) ∅ ∗ ∃ r, prngReg c r)

theorem T₀_intro (κ : GSem nD τ sig → ℕ) (c : Dev nD) : iprop(records m κ ∗ (linear c ∗ bundle m c)) ⊢ T₀ m c := by
  unfold bundle T₀ R Tk
  iintro ⟨#HR, Hl, Hh, Hc, HO, Hp⟩
  isplitl [Hh]; · iexact Hh
  isplitl [Hl Hc]
  · isplitl [Hl]
    · iapply (ghost_intro m κ c)
      isplitr; · iexact HR
      iexact Hl
    iexact Hc
  isplitl [Hp]; · iexact Hp
  iexists ∅; iexact HO

abbrev given (c : Dev nD) : sProp 𝕄 := iprop(unscopedBufs c (fun b => m ((c : Thread nD τ).loc b)) ∗ unscopedSems0 c
  ∗ owes (c : Thread nD τ) (O₀ c) ∅ ∗ Pipeline.launchCred O₀ c ∗ prngReg c (ρ c) ∗ G c)

theorem split_all (Φ Ψ : Dev nD → sProp 𝕄) : bigSep Finset.univ (fun c => iprop(Φ c ∗ Ψ c)) ⊢ iprop(bigSep Finset.univ Φ ∗ bigSep Finset.univ Ψ) :=
  Entails.of_eq (bigSep_sep' _ _ _)
theorem join_all (Φ Ψ : Dev nD → sProp 𝕄) : iprop(bigSep Finset.univ Φ ∗ bigSep Finset.univ Ψ) ⊢ bigSep Finset.univ (fun c => iprop(Φ c ∗ Ψ c)) :=
  Entails.of_eq (bigSep_sep' _ _ _).symm

theorem given_split (c : Dev nD) : given m ρ c ⊢ (iprop(bundle m c ∗ (semVal (barCell c) 0 ∗ G c)) : sProp 𝕄) := by
  unfold given
  rw [show unscopedBufs c (fun b => m ((c : Thread nD τ).loc b)) = StableHlo.held (c : Thread nD τ) bufs (Vm m c) from Pipeline.unscopedBufs_held c (Vm m c),
    unscopedSems_eq]
  unfold bundle
  iintro ⟨Hh, Hs, HO, Hc, Hp, HG⟩
  isplitl [Hh HO Hc Hp]
  · isplitl [Hh]; · iexact Hh
    isplitl [Hc]; · iapply (creds_of (F := F) c); iexact Hc
    isplitl [HO]; · iexact HO
    iexists (ρ c); iexact Hp
  isplitl [Hs] <;> iassumption

theorem init : iprop((bigSep Finset.univ fun c : Dev nD => given m ρ c) ∗ levAts L lv) ⊢ (|={Set.univ}=> bigSep Finset.univ (T₀ m) : sProp 𝕄) := by
  have hbar (Φ : GSem nD τ sig → sProp 𝕄) : bigSep barCells Φ = bigSep Finset.univ fun c : Dev nD => Φ (barCell c) :=
    bigSep_map (s := Finset.univ) barEmb (Φ := Φ)
  have hopen : bigSep scCells (fun g => (openTok ER g : sProp 𝕄)) = bigSep Finset.univ (fun c : Dev nD => (opens c : sProp 𝕄)) := by
    rw [bigSep_map, bigSep_univ_prod]
    exact bigSep_congr fun c _ => sems_eq c fun g => (openTok ER g : sProp 𝕄)
  iintro ⟨H, -⟩
  have hg : (bigSep Finset.univ fun c : Dev nD => given m ρ c) ⊢ bigSep Finset.univ fun c : Dev nD => iprop(bundle m c ∗ (semVal (barCell c) 0 ∗ G c)) :=
    bigSep_mono fun c _ => given_split m ρ c
  ihave H' := hg $$ H
  ihave H2 := (split_all _ _) $$ H'; icases H2 with ⟨HB, H3⟩
  ihave H4 := (split_all _ _) $$ H3; icases H4 with ⟨Hv, HG⟩
  ihave Hu := (Entails.of_eq (G_all (F := F))) $$ HG
  imod (Rounds.fund_launch ER (rd m) cells_disjoint (fun g _ h => h) tokSet) $$ [Hv Hu] with ⟨%κ, -, #Hinv, #Hr, Hat, Hopen, Htok⟩
  · isplitl [Hv]
    · iapply (Entails.of_eq (hbar fun g => (semVal g 0 : sProp 𝕄)).symm) $$ Hv
    · iexact Hu
  imodintro
  iapply (bigSep_with_persistent (R := records m κ) (Φ := fun c => iprop(linear c ∗ bundle m c)) fun c _ => T₀_intro m κ c)
  isplitr
  · unfold records
    isplitr; · iexact Hinv
    iexact Hr
  iapply (join_all _ _)
  isplitr [HB]
  · unfold linear
    iapply (join_all _ _); isplitl [Hat]; · iapply (Entails.of_eq (hbar fun g => (atPos ER g 0 ∅ 0 : sProp 𝕄))) $$ Hat
    iapply (join_all _ _); isplitl [Hopen]; · iapply (Entails.of_eq hopen) $$ Hopen
    iapply (Entails.of_eq (toks_eq.trans (deal (F := F)))) $$ Htok
  · iexact HB

theorem unscoped_bar : ∀ sm : SemLoc sig, sm.isScoped .tc = false → sm = .reg barS := by decide

/-- The argument's array at the end: what it held. -/
theorem V2_arg (c : Dev nD) : V2 m c main_arg0 = m ((c : Thread nD τ).loc main_arg0) := by
  show StableHlo.after _ (V1 m c) (dref main_arg0) = _
  rw [hostOps1, StableHlo.after_cons, StableHlo.after_nil, StableHlo.unary_result_ne _ _ _ _ _ _ (by decide), V1_ne m c _ (by decide)]
  exact V_main_arg0 m c

set_option backward.isDefEq.respectTransparency.types false in
/-- Every weakly fair execution ends, with the argument as it was, the result's array at the sorted block, every semaphore at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_v3) = V2 m c main_v3) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      rw [G_all]
      iintro Hu
      ihave H := (ownU_pair _ _) $$ Hu
      icases H with ⟨HP, HX⟩
      imodintro
      isplitl [HP]; · iexact HP
      iexact HX)
    (T₀ := T₀ m) (Tₙ := Tₙ m)
    (hch := by
      refine ⟨fun c => .rfl, fun c => into_region m c, fun c => from_region m c, fun c => ?_⟩
      show iprop(StableHlo.held (c : Thread nD τ) bufs (V2 m c) ∗ R' c)
        ⊢ iprop(Tₙ m c ∗ ∃ W, owes (c : Thread nD τ) (0 : CellTallies nD τ sig Unit) W)
      unfold R' Yk
      iintro ⟨Hh, Hb0, HO⟩
      isplitr [HO]
      · isplitl [Hh] <;> iassumption
      · iexact HO)
    (hinit := init m ρ)
    (QY := fun c s => (s.mem ((c : Thread nD τ).loc main_arg0) = V2 m c main_arg0 ∧ s.mem ((c : Thread nD τ).loc main_v3) = V2 m c main_v3)
      ∧ s.sem (barCell c) = 0)
    (hfin := fun c s' => by
      dsimp only [Tₙ]; rw [bufs_eq]
      iintro ⟨⟨⟨Ha, -, -, Hr⟩, Hb0⟩, HSI⟩
      icombine HSI Ha gives %ha
      icombine HSI Hr gives %hr
      icombine HSI Hb0 gives %hb
      imodintro
      isplitr
      · ipureintro
        exact ⟨⟨Buf.eq_of_forall_mem_univ ha, Buf.eq_of_forall_mem_univ hr⟩, by simpa using hb⟩
      iexact HSI)
    (hQ := fun s h hs => ⟨fun c => by
        obtain ⟨⟨ha, hr⟩, -⟩ := h c
        rw [V2_arg] at ha
        exact ⟨ha, hr⟩,
      sem_eq_zero hs fun c sm hsm => by
        obtain rfl := unscoped_bar sm hsm
        exact (h c).2⟩)

end Cert.ColSort

end
-- ==== Proof.Stages.lean ====
/-
# The kernel's values as chains of stages

Every stage of the kernel is one term in the rows' numbers, a distance and a mask: each row beside its partner (the row `d` below it or
above it), the greater of the two where the mask is set and the lesser elsewhere. Here the named values of `Values` are written as
chains of such stages.
-/
module

public import proofs.«01_k».proof.Proof.Values

@[expose] public section

noncomputable section

namespace Cert.ColSort

open Cert.KernelIdeal Cert.KernelIdeal.Gen
open Idealize.ShloMosaic Idealize.SL.Sem

variable {F : FTy → Type} [FloatOps F]

/-- Whether a row's number has the bit `d`. -/
def bitOf {s : Shape} (rows : IVec s 32) (d : BitVec 32) : IVec s 1 :=
  cmpi .ne (andi rows (broadcast s d)) (broadcast s 0#32)

/-- One stage: every row against its partner at distance `d`, the greater under the mask. -/
def step {s : Shape} {a : Fin s.rank} (hr : s.Rotates a none) (rows : IVec s 32) (up d : BitVec 32) (mask : IVec s 1)
    (v : FVec F s .bf16) : FVec F s .bf16 :=
  select mask
    (maximumf v (select (cmpi .eq (andi rows (broadcast s d)) (broadcast s 0#32)) (dynamicRotate a up none v hr)
      (dynamicRotate a d none v hr)))
    (minimumf v (select (cmpi .eq (andi rows (broadcast s d)) (broadcast s 0#32)) (dynamicRotate a up none v hr)
      (dynamicRotate a d none v hr)))

/-- A stage of a level whose runs are of `n` rows, in turns rising and falling. -/
def turnStep (up d n : BitVec 32) (v : FVec F S128x64 .bf16) : FVec F S128x64 .bf16 :=
  step rotates_S128x64_d0 rows128 up d (xori (bitOf rows128 d) (bitOf rows128 n)) v

/-- A stage of the block's last merge, which falls if `b`. -/
def lastStep (b : BitVec 1) (up d : BitVec 32) (v : FVec F S128x64 .bf16) : FVec F S128x64 .bf16 :=
  step rotates_S128x64_d0 rows128 up d
    (xori (xori (bitOf rows128 d) (bitOf rows128 128#32)) (broadcastTo S128x64 (broadcast S128x64 b) broadcasts_S128x64_S128x64)) v

/-- A stage of a pair's merge, which falls if `h`. -/
def pairStep (h : BitVec 1) (up d : BitVec 32) (v : FVec F S256x64 .bf16) : FVec F S256x64 .bf16 :=
  step rotates_S256x64_d0 rows256 up d
    (xori (bitOf rows256 d) (broadcastTo S256x64 (broadcast S256x64 h) broadcasts_S256x64_S256x64)) v

/-- A stage of the final merge, which rises. -/
def risingStep (up d : BitVec 32) (v : FVec F S128x64 .bf16) : FVec F S128x64 .bf16 :=
  step rotates_S128x64_d0 rows128 up d (bitOf rows128 d) v

/-! ## The block's own sort -/

theorem sortMidA_eq (v : FVec F S128x64 .bf16) :
    sortMidA v = turnStep 126#32 2#32 16#32 (turnStep 124#32 4#32 16#32 (turnStep 120#32 8#32 16#32 (turnStep 127#32 1#32 8#32
      (turnStep 126#32 2#32 8#32 (turnStep 124#32 4#32 8#32 (turnStep 127#32 1#32 4#32 v)))))) := rfl

theorem sortMidB_eq (v : FVec F S128x64 .bf16) :
    sortMidB v = turnStep 120#32 8#32 64#32 (turnStep 112#32 16#32 64#32 (turnStep 96#32 32#32 64#32 (turnStep 127#32 1#32 32#32
      (turnStep 126#32 2#32 32#32 (turnStep 124#32 4#32 32#32 (turnStep 120#32 8#32 32#32 v)))))) := rfl

theorem sortStart_eq (v : FVec F S128x64 .bf16) :
    k0_pay3 v rows128 k0_pay2 2#32 = turnStep 126#32 2#32 4#32 (turnStep 127#32 1#32 2#32 v) := rfl

theorem sortJoin_eq (v : FVec F S128x64 .bf16) :
    k0_pay16 rows128 v (k0_pay15 rows128) 0#32 = turnStep 112#32 16#32 32#32 (turnStep 127#32 1#32 16#32 v) := rfl

theorem sortEnd_eq (v : FVec F S128x64 .bf16) :
    k0_pay29 rows128 v 4#32 = turnStep 126#32 2#32 64#32 (turnStep 124#32 4#32 64#32 v) := rfl

theorem sortTail_eq (b : BitVec 1) (v : FVec F S128x64 .bf16) :
    sortTail b v = lastStep b 127#32 1#32 (lastStep b 126#32 2#32 (lastStep b 124#32 4#32 (lastStep b 120#32 8#32
      (lastStep b 112#32 16#32 (lastStep b 96#32 32#32 (lastStep b 64#32 64#32 (turnStep 127#32 1#32 64#32 v))))))) := rfl

/-! ## The merges -/

/-- The two blocks of a pair one under the other, that of the even place first. -/
def stacked (b : BitVec 1) (own mate : FVec F S128x64 .bf16) : FVec F S256x64 .bf16 :=
  concatenate S256x64 0 [⟨S128x64, Scalar.select b mate own⟩, ⟨S128x64, Scalar.select b own mate⟩]
    concatenates_S128x64_S128x64_S256x64_d0

/-- All stages of a pair's merge but the last. -/
def pairSteps (h : BitVec 1) (v : FVec F S256x64 .bf16) : FVec F S256x64 .bf16 :=
  pairStep h 254#32 2#32 (pairStep h 252#32 4#32 (pairStep h 248#32 8#32 (pairStep h 240#32 16#32 (pairStep h 224#32 32#32
    (pairStep h 192#32 64#32 (pairStep h 128#32 128#32 v))))))

theorem nearPair_eq (b h : BitVec 1) (own mate : FVec F S128x64 .bf16) :
    nearPair b h own mate = pairStep h 255#32 1#32 (pairSteps h (stacked b own mate)) := rfl

theorem farPair_eq (h : BitVec 1) (v : FVec F S256x64 .bf16) : farPair h v = pairSteps (Scalar.xori h 1#1) v := rfl

/-- The pair's entries a device keeps: the greater ones if `h`. -/
def kept (h : BitVec 1) (own far : FVec F S256x64 .bf16) : FVec F S256x64 .bf16 :=
  Scalar.select h (maximumf own far) (minimumf own far)

/-- The block's entries a device keeps: the greater ones if `b`. -/
def keptHalf (b : BitVec 1) (v : FVec F S256x64 .bf16) : FVec F S128x64 .bf16 :=
  Scalar.select b
    (maximumf (extractStridedSlice S128x64 ![0, 0] v slices_S256x64_o0_0_S128x64)
      (extractStridedSlice S128x64 ![128, 0] v slices_S256x64_o128_0_S128x64))
    (minimumf (extractStridedSlice S128x64 ![0, 0] v slices_S256x64_o0_0_S128x64)
      (extractStridedSlice S128x64 ![128, 0] v slices_S256x64_o128_0_S128x64))

/-- The final merge. -/
def risingSteps (v : FVec F S128x64 .bf16) : FVec F S128x64 .bf16 :=
  risingStep 127#32 1#32 (risingStep 126#32 2#32 (risingStep 124#32 4#32 (risingStep 120#32 8#32 (risingStep 112#32 16#32
    (risingStep 96#32 32#32 (risingStep 64#32 64#32 v))))))

theorem lastMerge_eq (b h : BitVec 1) (near far : FVec F S256x64 .bf16) :
    lastMerge b h near far = transpose S64x128 [1, 0]
      (extf .f32 (risingSteps (keptHalf b (kept h near (pairStep (Scalar.xori h 1#1) 255#32 1#32 far)))) bitsLt_bf16_f32)
      transposes_S128x64_p1_0_S64x128 := rfl

end Cert.ColSort

end
-- ==== Proof.Network.lean ====
/-
# Sorting a column cut over four devices

The mathematics of the kernel, free of any program. A column of 512 entries is cut into four blocks of 128. Each block is sorted, the
blocks of even number rising and those of odd number falling; each pair of neighbouring blocks, which first rises and then falls, is
merged, the lower pair rising and the upper pair falling; and the two pairs, which again rise and then fall, are merged once more. The
device at place `2 * h + o` computes only its own quarter of the last merge: it keeps the lesser or the greater of the two pairs, then
of the two halves of what it kept, and merges the 128 entries left. `whole_place` says that this is the quarter of the whole merge,
`whole_monotone` and `whole_perm` that the whole merge is the sorted column.
-/
module

public import Idealize.ShloMosaic.Lib.SortNet.Sorts

@[expose] public section

noncomputable section

namespace Cert.ColSort

open Idealize.ShloMosaic.SortNet

variable {α : Type*} [LinearOrder α]

/-! ## Two halves side by side -/

/-- The vector whose lower half is `a` and whose upper half is `b`. -/
def join (q : Nat) (a b : Fin (2 ^ q) → α) (i : Fin (2 ^ (q + 1))) : α :=
  if h : i.val < 2 ^ q then a ⟨i.val, h⟩
  else b ⟨i.val - 2 ^ q, by have h2 := i.isLt; have h3 := Nat.pow_succ 2 q; omega⟩

theorem join_lower (q : Nat) (a b : Fin (2 ^ q) → α) (j : Fin (2 ^ q)) : join q a b (lowerPos q j) = a j :=
  dif_pos (show (lowerPos q j).val < 2 ^ q from j.isLt)

theorem join_upper (q : Nat) (a b : Fin (2 ^ q) → α) (j : Fin (2 ^ q)) : join q a b (upperPos q j) = b j := by
  have h : ¬(upperPos q j).val < 2 ^ q := by rw [upperPos_val]; omega
  unfold join
  rw [dif_neg h]
  exact congrArg b (Fin.ext (Nat.add_sub_cancel j.val (2 ^ q)))

/-- A rising lower half beside a falling upper half rises and then falls. -/
theorem descAsc_of_halves {q : Nat} (v : Fin (2 ^ (q + 1)) → α) (h1 : Monotone fun j => v (lowerPos q j))
    (h2 : Antitone fun j => v (upperPos q j)) : DescAsc v := by
  refine ⟨2 ^ q, Or.inr ⟨fun i j hij hj => ?_, fun i j hij hi => ?_⟩⟩
  · have hi : i.val < 2 ^ q := lt_of_le_of_lt hij hj
    rw [eq_lowerPos i hi, eq_lowerPos j hj]
    exact h1 (show (⟨i.val, hi⟩ : Fin (2 ^ q)) ≤ ⟨j.val, hj⟩ from hij)
  · have hi' : ¬i.val < 2 ^ q := Nat.not_lt.mpr hi
    have hj' : ¬j.val < 2 ^ q := Nat.not_lt.mpr (le_trans hi hij)
    rw [eq_upperPos i hi', eq_upperPos j hj']
    exact h2 (show i.val - 2 ^ q ≤ j.val - 2 ^ q from Nat.sub_le_sub_right hij _)

/-- The positions of the two halves are all the positions. -/
def halves (q : Nat) : Fin (2 ^ q) ⊕ Fin (2 ^ q) ≃ Fin (2 ^ (q + 1)) :=
  Equiv.ofBijective (Sum.elim (lowerPos q) (upperPos q)) <| by
    constructor
    · rintro (a | a) (b | b) h <;> have hv := congrArg Fin.val h <;>
        simp only [Sum.elim_inl, Sum.elim_inr, lowerPos_val, upperPos_val] at hv <;> have ha := a.isLt <;> have hb := b.isLt
      · exact congrArg _ (Fin.ext hv)
      · omega
      · omega
      · exact congrArg _ (Fin.ext (by omega))
    · intro i
      by_cases h : i.val < 2 ^ q
      · exact ⟨Sum.inl ⟨i.val, h⟩, (eq_lowerPos i h).symm⟩
      · exact ⟨Sum.inr _, (eq_upperPos i h).symm⟩

/-- If each half of `u` rearranges the same half of `v`, then `u` rearranges `v`. -/
theorem perm_of_halves {q : Nat} (u v : Fin (2 ^ (q + 1)) → α)
    (h1 : ∃ σ : Equiv.Perm (Fin (2 ^ q)), (fun j => u (lowerPos q j)) = (fun j => v (lowerPos q j)) ∘ σ)
    (h2 : ∃ σ : Equiv.Perm (Fin (2 ^ q)), (fun j => u (upperPos q j)) = (fun j => v (upperPos q j)) ∘ σ) :
    ∃ ρ : Equiv.Perm (Fin (2 ^ (q + 1))), u = v ∘ ρ := by
  obtain ⟨σ, hσ⟩ := h1
  obtain ⟨τ, hτ⟩ := h2
  refine ⟨((halves q).symm.trans (Equiv.sumCongr σ τ)).trans (halves q), ?_⟩
  funext i
  obtain ⟨s, rfl⟩ := (halves q).surjective i
  rw [Function.comp_apply, Equiv.trans_apply, Equiv.trans_apply, Equiv.symm_apply_apply]
  rcases s with j | j
  · exact congrFun hσ j
  · exact congrFun hτ j

/-- One rearrangement after another. -/
theorem perm_trans {n : Nat} {u v w : Fin n → α} (h1 : ∃ σ : Equiv.Perm (Fin n), u = v ∘ σ)
    (h2 : ∃ σ : Equiv.Perm (Fin n), v = w ∘ σ) : ∃ σ : Equiv.Perm (Fin n), u = w ∘ σ := by
  obtain ⟨σ, rfl⟩ := h1
  obtain ⟨τ, rfl⟩ := h2
  exact ⟨σ.trans τ, rfl⟩

/-! ## A merge in the direction asked for -/

/-- The merge of `2 ^ p` positions, falling if `desc`. -/
def mergeNet (p : Nat) (desc : Bool) : Network (2 ^ p) := (List.range p).reverse.flatMap fun s => stage p s fun _ => desc

theorem mergeNet_monotone (p : Nat) (v : Fin (2 ^ p) → α) (hv : DescAsc v) : Monotone (Network.apply (mergeNet p false) v) :=
  mergeAscNet_apply_monotone p v hv

theorem mergeNet_antitone (p : Nat) (v : Fin (2 ^ p) → α) (hv : DescAsc v) : Antitone (Network.apply (mergeNet p true) v) :=
  mergeDescNet_apply_antitone p v hv

/-- The rising merge, one half at a time: the lesser of the two halves' entries merged, and the greater merged. -/
theorem apply_mergeNet_succ (q : Nat) (v : Fin (2 ^ (q + 1)) → α) (j : Fin (2 ^ q)) :
    Network.apply (mergeNet (q + 1) false) v (lowerPos q j)
        = Network.apply (mergeNet q false) (fun j => min (v (lowerPos q j)) (v (upperPos q j))) j ∧
      Network.apply (mergeNet (q + 1) false) v (upperPos q j)
        = Network.apply (mergeNet q false) (fun j => max (v (lowerPos q j)) (v (upperPos q j))) j := by
  have e : ∀ p, mergeNet p false = (mergeDescNet p).map Cmpx.swap := mergeAscNet_eq_map_swap
  have h := apply_mergeDescNet_succ q (fun i => OrderDual.toDual (v i)) j
  constructor
  · rw [e, e, Network.apply_map_swap, Network.apply_map_swap]
    exact congrArg OrderDual.ofDual h.1
  · rw [e, e, Network.apply_map_swap, Network.apply_map_swap]
    exact congrArg OrderDual.ofDual h.2

/-! ## The blocks, the pairs and the whole -/

/-- A block's own sort: six levels, then a merge, falling if `odd`. -/
def sorted (odd : Bool) (v : Fin (2 ^ 7) → α) : Fin (2 ^ 7) → α :=
  Network.apply (mergeNet 7 odd) (Network.apply (levelsNet 7 false 6) v)

theorem descAsc_levels (v : Fin (2 ^ 7) → α) : DescAsc (Network.apply (levelsNet 7 false 6) v) := by
  have h0 := (sortNet_levels 7 false v 6 (by decide) ⟨0, by decide⟩).2 (by decide)
  have h1 := (sortNet_levels 7 false v 6 (by decide) ⟨1, by decide⟩).1 (by decide)
  refine descAsc_of_halves (q := 6) _ ?_ ?_
  · simpa only [chunkPos_zero_eq_lowerPos] using h0
  · simpa only [chunkPos_one_eq_upperPos] using h1

theorem sorted_monotone (v : Fin (2 ^ 7) → α) : Monotone (sorted false v) := mergeNet_monotone 7 _ (descAsc_levels v)

theorem sorted_antitone (v : Fin (2 ^ 7) → α) : Antitone (sorted true v) := mergeNet_antitone 7 _ (descAsc_levels v)

theorem sorted_perm (odd : Bool) (v : Fin (2 ^ 7) → α) : ∃ σ : Equiv.Perm (Fin (2 ^ 7)), sorted odd v = v ∘ σ :=
  perm_trans (Network.exists_perm _ _) (Network.exists_perm _ _)

/-- Two neighbouring blocks, each sorted, merged: falling if `desc`. -/
def pairOf (desc : Bool) (a b : Fin (2 ^ 7) → α) : Fin (2 ^ 8) → α :=
  Network.apply (mergeNet 8 desc) (join 7 (sorted false a) (sorted true b))

theorem descAsc_join (q : Nat) (a b : Fin (2 ^ q) → α) (ha : Monotone a) (hb : Antitone b) : DescAsc (join q a b) := by
  refine descAsc_of_halves _ ?_ ?_
  · simpa only [join_lower] using ha
  · simpa only [join_upper] using hb

/-- The four blocks of a column. -/
def blockAt (x : Fin (2 ^ 9) → α) (h o : Bool) (j : Fin (2 ^ 7)) : α :=
  x (if h then upperPos 8 (if o then upperPos 7 j else lowerPos 7 j) else lowerPos 8 (if o then upperPos 7 j else lowerPos 7 j))

/-- The lower pair of a column, rising; the upper pair, falling. -/
def pairAt (x : Fin (2 ^ 9) → α) (h : Bool) : Fin (2 ^ 8) → α := pairOf h (blockAt x h false) (blockAt x h true)

/-- The whole column, merged. -/
def whole (x : Fin (2 ^ 9) → α) : Fin (2 ^ 9) → α :=
  Network.apply (mergeNet 9 false) (join 8 (pairAt x false) (pairAt x true))

theorem pairOf_monotone (a b : Fin (2 ^ 7) → α) : Monotone (pairOf false a b) :=
  mergeNet_monotone 8 _ (descAsc_join 7 _ _ (sorted_monotone a) (sorted_antitone b))

theorem pairOf_antitone (a b : Fin (2 ^ 7) → α) : Antitone (pairOf true a b) :=
  mergeNet_antitone 8 _ (descAsc_join 7 _ _ (sorted_monotone a) (sorted_antitone b))

theorem whole_monotone (x : Fin (2 ^ 9) → α) : Monotone (whole x) :=
  mergeNet_monotone 9 _ (descAsc_join 8 _ _ (pairOf_monotone _ _) (pairOf_antitone _ _))

theorem pairAt_perm (x : Fin (2 ^ 9) → α) (h : Bool) :
    ∃ σ : Equiv.Perm (Fin (2 ^ 8)), pairAt x h = (fun i => x (if h then upperPos 8 i else lowerPos 8 i)) ∘ σ := by
  refine perm_trans (Network.exists_perm _ _) (perm_of_halves (q := 7) _ _ ?_ ?_)
  · simp only [join_lower]
    obtain ⟨σ, hσ⟩ := sorted_perm false (blockAt x h false)
    exact ⟨σ, hσ.trans (by unfold blockAt; rfl)⟩
  · simp only [join_upper]
    obtain ⟨σ, hσ⟩ := sorted_perm true (blockAt x h true)
    exact ⟨σ, hσ.trans (by unfold blockAt; rfl)⟩

theorem whole_perm (x : Fin (2 ^ 9) → α) : ∃ σ : Equiv.Perm (Fin (2 ^ 9)), whole x = x ∘ σ := by
  refine perm_trans (Network.exists_perm _ _) (perm_of_halves (q := 8) _ _ ?_ ?_)
  · simp only [join_lower]
    exact pairAt_perm x false
  · simp only [join_upper]
    exact pairAt_perm x true

/-! ## One device's quarter of the last merge -/

/-- Of the two pairs, the lesser entries for the lower devices and the greater for the upper ones. -/
def halfOf (h : Bool) (own far : Fin (2 ^ 8) → α) (i : Fin (2 ^ 8)) : α :=
  if h then max (own i) (far i) else min (own i) (far i)

/-- Of the two halves, the lesser entries at an even place and the greater at an odd one. -/
def quarterOf (o : Bool) (v : Fin (2 ^ 8) → α) (j : Fin (2 ^ 7)) : α :=
  if o then max (v (lowerPos 7 j)) (v (upperPos 7 j)) else min (v (lowerPos 7 j)) (v (upperPos 7 j))

/-- What the device at place `(h, o)` computes is its quarter of the whole merge. -/
theorem whole_place (x : Fin (2 ^ 9) → α) (h o : Bool) (j : Fin (2 ^ 7)) :
    Network.apply (mergeNet 7 false) (quarterOf o (halfOf h (pairAt x h) (pairAt x (!h)))) j = blockAt (whole x) h o j := by
  have hq : ∀ (v : Fin (2 ^ 8) → α), Network.apply (mergeNet 7 false) (quarterOf o v) j
      = Network.apply (mergeNet 8 false) v (if o then upperPos 7 j else lowerPos 7 j) := by
    intro v
    cases o
    · exact (apply_mergeNet_succ 7 v j).1.symm
    · exact (apply_mergeNet_succ 7 v j).2.symm
  rw [hq]
  unfold blockAt
  generalize (if o then upperPos 7 j else lowerPos 7 j) = i
  have hw := apply_mergeNet_succ 8 (join 8 (pairAt x false) (pairAt x true)) i
  simp only [join_lower, join_upper] at hw
  cases h
  · exact hw.1.symm
  · have e : halfOf true (pairAt x true) (pairAt x !true) = fun j => max (pairAt x false j) (pairAt x true j) :=
      funext fun j => max_comm _ _
    rw [e]
    exact hw.2.symm

/-! ## A sorted rearrangement is the only one -/

theorem not_lt_of_perm {n : Nat} {u v : Fin n → α} (hu : Monotone u) (hv : Monotone v) (ρ : Equiv.Perm (Fin n))
    (h : u = v ∘ ρ) (i : Fin n) : ¬u i < v i := by
  intro hlt
  have hb : ∀ k : Fin (i.val + 1), (ρ ⟨k.val, by have := k.isLt; have := i.isLt; omega⟩).val < i.val := by
    intro k
    by_contra hc
    have h1 : v i ≤ v (ρ ⟨k.val, by have := k.isLt; have := i.isLt; omega⟩) := hv (Nat.not_lt.mp hc)
    have h2 : u ⟨k.val, by have := k.isLt; have := i.isLt; omega⟩ ≤ u i := hu (Nat.le_of_lt_succ k.isLt)
    rw [h] at h2 hlt
    exact absurd (lt_of_le_of_lt (le_trans h1 h2) hlt) (lt_irrefl _)
  have hinj : Function.Injective fun k : Fin (i.val + 1) => (⟨_, hb k⟩ : Fin i.val) := by
    intro a b hab
    have h1 := ρ.injective (Fin.ext (Fin.mk.inj hab))
    exact Fin.ext (Fin.mk.inj h1)
  have hc := Fintype.card_le_of_injective _ hinj
  rw [Fintype.card_fin, Fintype.card_fin] at hc
  omega

/-- Two rising rearrangements of one vector are one vector. -/
theorem eq_of_perm {n : Nat} {u v w : Fin n → α} (hu : Monotone u) (hv : Monotone v)
    (hσ : ∃ σ : Equiv.Perm (Fin n), u = w ∘ σ) (hτ : ∃ τ : Equiv.Perm (Fin n), v = w ∘ τ) : u = v := by
  obtain ⟨σ, hσ⟩ := hσ
  obtain ⟨τ, hτ⟩ := hτ
  have h1 : u = v ∘ (σ.trans τ.symm) := by
    rw [hσ, hτ]
    funext i
    simp
  have h2 : v = u ∘ (τ.trans σ.symm) := by
    rw [hσ, hτ]
    funext i
    simp
  funext i
  exact le_antisymm (not_lt.mp (not_lt_of_perm hv hu _ h2 i)) (not_lt.mp (not_lt_of_perm hu hv _ h1 i))

end Cert.ColSort

end
-- ==== Proof.Reads.lean ====
/-
# The stages read on a column

A block's column, one entry per row, is what the sorting networks work on. With the floats replaced by the reals, a stage of the
kernel read on a column is a stage of a network, and so the chains of `Stages` read on a column are the networks of `Network`.
-/
module

public import proofs.«01_k».proof.Proof.Stages
public import proofs.«01_k».proof.Proof.Network
public import Idealize.ShloMosaic.Lib.SortNet.Printed
public import Idealize.ShloMosaic.Lib.ValueIdx
public import Idealize.ShloMosaic.Lib.ValueLayout

@[expose] public section

noncomputable section

namespace Cert.ColSort

open Cert.KernelIdeal Cert.KernelIdeal.Gen
open Idealize.ShloMosaic Idealize.SL.Sem
open Idealize.ShloMosaic.SortNet

/-- Column `l` of a block of 128 rows, of a pair of 256 rows. -/
def col128 (l : Fin 64) : Column S128x64 0 7 where
  col i := ValueIdx.ix2 i l
  size_eq := rfl
  coord _ := rfl
  other i i' b hb := by
    match b with
    | ⟨0, _⟩ => exact absurd rfl hb
    | ⟨1, _⟩ => rfl
def col256 (l : Fin 64) : Column S256x64 0 8 where
  col i := ValueIdx.ix2 i l
  size_eq := rfl
  coord _ := rfl
  other i i' b hb := by
    match b with
    | ⟨0, _⟩ => exact absurd rfl hb
    | ⟨1, _⟩ => rfl

section
variable {s : Shape} {a : Fin s.rank} {p : Nat}

/-- The vector holds `u` on the column. -/
def Reads (C : Column s a p) (v : FVec Ideal s .bf16) (u : Fin (2 ^ p) → EReal) : Prop := ∀ i, v (C.col i) = u i

theorem bitOf_col (C : Column s a p) (hp : p ≤ 32) (rows : IVec s 32) (hrows : ∀ i, rows (C.col i) = BitVec.ofNat 32 i.val)
    (d : BitVec 32) {s' : Nat} (hd : d.toNat = 2 ^ s') (i : Fin (2 ^ p)) :
    bitOf rows d (C.col i) = BitVec.ofBool (decide (i.val &&& 2 ^ s' ≠ 0)) := upper_apply C hp rows hrows d hd i

theorem clear_col (C : Column s a p) (hp : p ≤ 32) (rows : IVec s 32) (hrows : ∀ i, rows (C.col i) = BitVec.ofNat 32 i.val)
    (d : BitVec 32) {s' : Nat} (hd : d.toNat = 2 ^ s') (i : Fin (2 ^ p)) :
    cmpi .eq (andi rows (broadcast s d)) (broadcast s 0#32) (C.col i) = BitVec.ofBool (decide (i.val &&& 2 ^ s' = 0)) := by
  have hi : i.val < 2 ^ 32 := Nat.lt_of_lt_of_le i.isLt (Nat.pow_le_pow_right (by decide) hp)
  show BitVec.ofBool (IntOp.andi (rows (C.col i)) d == 0#32) = _
  rw [hrows]
  refine congrArg BitVec.ofBool ?_
  rw [Bool.eq_iff_iff, beq_iff_eq, decide_eq_true_iff]
  exact and_distance_eq_zero_iff hi d hd

/-- A stage of the kernel on a column is the network's stage. -/
theorem step_reads (C : Column s a p) (hp : p ≤ 32) (hr : s.Rotates a none) (rows : IVec s 32)
    (hrows : ∀ i, rows (C.col i) = BitVec.ofNat 32 i.val) {s' : Nat} (hs : s' < p) (up d : BitVec 32)
    (hup : up.toNat = 2 ^ p - 2 ^ s') (hd : d.toNat = 2 ^ s') (mask : IVec s 1) (low : Fin (2 ^ p) → Bool)
    (hlow : ∀ i, low (partner p s' i) = low i) (hmask : ∀ i, mask (C.col i) = BitVec.ofBool (upperXor s' low i))
    {v : FVec Ideal s .bf16} {u : Fin (2 ^ p) → EReal} (hv : Reads C v u) :
    Reads C (step hr rows up d mask v) (Network.apply (stage p s' low) u) := by
  intro i
  have hw : select (cmpi .eq (andi rows (broadcast s d)) (broadcast s 0#32)) (dynamicRotate a up none v hr)
      (dynamicRotate a d none v hr) (C.col i) = u (partner p s' i) := by
    rw [← hv]
    show Scalar.select (cmpi .eq (andi rows (broadcast s d)) (broadcast s 0#32) (C.col i)) _ _ = _
    rw [clear_col C hp rows hrows d hd, select_ofBool]
    by_cases hb : i.val &&& 2 ^ s' = 0
    · rw [decide_eq_true hb, if_pos rfl, C.rotate_of_clear hs up hup v hr i hb]
    · rw [decide_eq_false hb, if_neg Bool.false_ne_true, C.rotate_of_set hs d hd v hr i hb]
  rw [← stage_upperXor, apply_stage_select hs _ (fun j => upperXor_partner hs low j (hlow j)), ite_lt_eq_max_min]
  show Scalar.select (mask (C.col i)) (max (v (C.col i)) _) (min (v (C.col i)) _) = _
  rw [hmask, select_ofBool, hv, hw]

end

theorem rows128_col (l : Fin 64) (i : Fin (2 ^ 7)) : rows128 ((col128 l).col i) = BitVec.ofNat 32 i.val :=
  (col128 l).iota_apply .tc iota_S128x64_d0_w32 i
theorem rows256_col (l : Fin 64) (i : Fin (2 ^ 8)) : rows256 ((col256 l).col i) = BitVec.ofNat 32 i.val :=
  (col256 l).iota_apply .tc iota_S256x64_d0_w32 i

/-! ## Each kind of stage -/

/-- A stage of a level whose runs are of `2 ^ (k + 1)` positions. -/
abbrev turnNet (k s' : Nat) : Network (2 ^ 7) := stage 7 s' fun i => (decide (i.val &&& 2 ^ (k + 1) = 0)) == false

theorem turnStep_reads (l : Fin 64) {k s' : Nat} (hs : s' < 7) (hk : s' ≤ k) (up d n : BitVec 32)
    (hup : up.toNat = 2 ^ 7 - 2 ^ s') (hd : d.toNat = 2 ^ s') (hn : n.toNat = 2 ^ (k + 1))
    {v : FVec Ideal S128x64 .bf16} {u : Fin (2 ^ 7) → EReal} (hv : Reads (col128 l) v u) :
    Reads (col128 l) (turnStep up d n v) (Network.apply (turnNet k s') u) := by
  refine step_reads (col128 l) (by decide) rotates_S128x64_d0 rows128 (rows128_col l) hs up d hup hd _ _
    (fun i => sizeClear_partner hs hk false i) (fun i => ?_) hv
  refine xori_apply_ofBool _ _ _ _ _ (bitOf_col (col128 l) (by decide) rows128 (rows128_col l) d hd i) ?_
  rw [bitOf_col (col128 l) (by decide) rows128 (rows128_col l) n hn i]
  refine congrArg BitVec.ofBool ?_
  show decide (i.val &&& 2 ^ (k + 1) ≠ 0) = (decide (i.val &&& 2 ^ (k + 1) = 0) == false)
  by_cases h : i.val &&& 2 ^ (k + 1) = 0
  · rw [decide_eq_true h, decide_eq_false (not_not_intro h)]; rfl
  · rw [decide_eq_false h, decide_eq_true h]; rfl

theorem lastStep_reads (l : Fin 64) (o : Bool) {s' : Nat} (hs : s' < 7) (up d : BitVec 32)
    (hup : up.toNat = 2 ^ 7 - 2 ^ s') (hd : d.toNat = 2 ^ s')
    {v : FVec Ideal S128x64 .bf16} {u : Fin (2 ^ 7) → EReal} (hv : Reads (col128 l) v u) :
    Reads (col128 l) (lastStep (BitVec.ofBool o) up d v) (Network.apply (stage 7 s' fun _ => o) u) := by
  refine step_reads (col128 l) (by decide) rotates_S128x64_d0 rows128 (rows128_col l) hs up d hup hd _ _
    (fun _ => rfl) (fun i => ?_) hv
  refine xori_apply_ofBool _ _ _ _ _ ?_ rfl
  have hb : bitOf rows128 128#32 ((col128 l).col i) = BitVec.ofBool false := by
    rw [bitOf_col (col128 l) (by decide) rows128 (rows128_col l) 128#32 (s' := 7) rfl i]
    refine congrArg BitVec.ofBool (decide_eq_false ?_)
    exact not_not_intro ((and_two_pow_eq_zero_iff_testBit _ _).mpr (Nat.testBit_lt_two_pow i.isLt))
  refine (xori_apply_ofBool _ _ _ _ _ (bitOf_col (col128 l) (by decide) rows128 (rows128_col l) d hd i) hb).trans ?_
  rw [Bool.xor_false]

theorem risingStep_reads (l : Fin 64) {s' : Nat} (hs : s' < 7) (up d : BitVec 32)
    (hup : up.toNat = 2 ^ 7 - 2 ^ s') (hd : d.toNat = 2 ^ s')
    {v : FVec Ideal S128x64 .bf16} {u : Fin (2 ^ 7) → EReal} (hv : Reads (col128 l) v u) :
    Reads (col128 l) (risingStep up d v) (Network.apply (stage 7 s' fun _ => false) u) := by
  refine step_reads (col128 l) (by decide) rotates_S128x64_d0 rows128 (rows128_col l) hs up d hup hd _ _
    (fun _ => rfl) (fun i => ?_) hv
  rw [bitOf_col (col128 l) (by decide) rows128 (rows128_col l) d hd i]
  unfold upperXor
  rw [Bool.xor_false]

theorem pairStep_reads (l : Fin 64) (h : Bool) {s' : Nat} (hs : s' < 8) (up d : BitVec 32)
    (hup : up.toNat = 2 ^ 8 - 2 ^ s') (hd : d.toNat = 2 ^ s')
    {v : FVec Ideal S256x64 .bf16} {u : Fin (2 ^ 8) → EReal} (hv : Reads (col256 l) v u) :
    Reads (col256 l) (pairStep (BitVec.ofBool h) up d v) (Network.apply (stage 8 s' fun _ => h) u) := by
  refine step_reads (col256 l) (by decide) rotates_S256x64_d0 rows256 (rows256_col l) hs up d hup hd _ _
    (fun _ => rfl) (fun i => ?_) hv
  exact xori_apply_ofBool _ _ _ _ _ (bitOf_col (col256 l) (by decide) rows256 (rows256_col l) d hd i) rfl

/-! ## The chains -/

/-- A network given stage by stage is applied stage by stage. -/
theorem apply_flat {n : Nat} (f : Nat → Network n) (L : List Nat) (u : Fin n → EReal) :
    Network.apply (L.flatMap f) u = L.foldl (fun w s' => Network.apply (f s') w) u := by
  induction L generalizing u with
  | nil => rfl
  | cons a L ih => rw [List.flatMap_cons, Network.apply_append, ih, List.foldl_cons]

theorem down1 : (List.range 1).reverse = [0] := by decide
theorem down2 : (List.range 2).reverse = [1, 0] := by decide
theorem down3 : (List.range 3).reverse = [2, 1, 0] := by decide
theorem down4 : (List.range 4).reverse = [3, 2, 1, 0] := by decide
theorem down5 : (List.range 5).reverse = [4, 3, 2, 1, 0] := by decide
theorem down6 : (List.range 6).reverse = [5, 4, 3, 2, 1, 0] := by decide
theorem down7 : (List.range 7).reverse = [6, 5, 4, 3, 2, 1, 0] := by decide
theorem down8 : (List.range 8).reverse = [7, 6, 5, 4, 3, 2, 1, 0] := by decide
theorem up6 : List.range 6 = [0, 1, 2, 3, 4, 5] := by decide

theorem apply_mergeNet (p : Nat) (o : Bool) (u : Fin (2 ^ p) → EReal) :
    Network.apply (mergeNet p o) u = (List.range p).reverse.foldl (fun w s' => Network.apply (stage p s' fun _ => o) w) u :=
  apply_flat _ _ _

theorem apply_levelNet (k : Nat) (u : Fin (2 ^ 7) → EReal) :
    Network.apply (levelNet 7 false k) u = (List.range (k + 1)).reverse.foldl (fun w s' => Network.apply (turnNet k s') w) u :=
  apply_flat _ _ _

theorem apply_levelsNet (k : Nat) (u : Fin (2 ^ 7) → EReal) :
    Network.apply (levelsNet 7 false k) u = (List.range k).foldl (fun w k' => Network.apply (levelNet 7 false k') w) u :=
  apply_flat _ _ _

/-- The block's own sort, on a column. -/
theorem sorted_reads (l : Fin 64) (o : Bool) {v : FVec Ideal S128x64 .bf16} {u : Fin (2 ^ 7) → EReal}
    (hv : Reads (col128 l) v u) :
    Reads (col128 l) (sortTail (BitVec.ofBool o) (k0_pay29 rows128
      (sortMidB (k0_pay16 rows128 (sortMidA (k0_pay3 v rows128 k0_pay2 2#32)) (k0_pay15 rows128) 0#32)) 4#32)) (sorted o u) := by
  unfold sorted
  rw [apply_levelsNet, up6, apply_mergeNet, down7]
  simp only [List.foldl_cons, List.foldl_nil]
  rw [sortTail_eq, sortEnd_eq, sortMidB_eq, sortJoin_eq, sortMidA_eq, sortStart_eq]
  refine lastStep_reads l o (by decide) _ _ rfl rfl <| lastStep_reads l o (by decide) _ _ rfl rfl <|
    lastStep_reads l o (by decide) _ _ rfl rfl <| lastStep_reads l o (by decide) _ _ rfl rfl <|
    lastStep_reads l o (by decide) _ _ rfl rfl <| lastStep_reads l o (by decide) _ _ rfl rfl <|
    lastStep_reads l o (by decide) _ _ rfl rfl ?_
  have t := @turnStep_reads l
  have level5 : ∀ {v : FVec Ideal S128x64 .bf16} {u : Fin (2 ^ 7) → EReal}, Reads (col128 l) v u → Reads (col128 l)
      (turnStep 127#32 1#32 64#32 (turnStep 126#32 2#32 64#32 (turnStep 124#32 4#32 64#32 (turnStep 120#32 8#32 64#32
        (turnStep 112#32 16#32 64#32 (turnStep 96#32 32#32 64#32 v))))))
      (Network.apply (levelNet 7 false 5) u) := by
    intro v u hv
    rw [apply_levelNet, down6]
    simp only [List.foldl_cons, List.foldl_nil]
    exact
      t (s' := 0) (by decide) (by decide) _ _ _ rfl rfl rfl <| t (s' := 1) (by decide) (by decide) _ _ _ rfl rfl rfl <|
      t (s' := 2) (by decide) (by decide) _ _ _ rfl rfl rfl <| t (s' := 3) (by decide) (by decide) _ _ _ rfl rfl rfl <|
      t (s' := 4) (by decide) (by decide) _ _ _ rfl rfl rfl <| t (s' := 5) (by decide) (by decide) _ _ _ rfl rfl rfl hv
  have level4 : ∀ {v : FVec Ideal S128x64 .bf16} {u : Fin (2 ^ 7) → EReal}, Reads (col128 l) v u → Reads (col128 l)
      (turnStep 127#32 1#32 32#32 (turnStep 126#32 2#32 32#32 (turnStep 124#32 4#32 32#32 (turnStep 120#32 8#32 32#32
        (turnStep 112#32 16#32 32#32 v)))))
      (Network.apply (levelNet 7 false 4) u) := by
    intro v u hv
    rw [apply_levelNet, down5]
    simp only [List.foldl_cons, List.foldl_nil]
    exact
      t (s' := 0) (by decide) (by decide) _ _ _ rfl rfl rfl <| t (s' := 1) (by decide) (by decide) _ _ _ rfl rfl rfl <|
      t (s' := 2) (by decide) (by decide) _ _ _ rfl rfl rfl <| t (s' := 3) (by decide) (by decide) _ _ _ rfl rfl rfl <|
      t (s' := 4) (by decide) (by decide) _ _ _ rfl rfl rfl hv
  have level3 : ∀ {v : FVec Ideal S128x64 .bf16} {u : Fin (2 ^ 7) → EReal}, Reads (col128 l) v u → Reads (col128 l)
      (turnStep 127#32 1#32 16#32 (turnStep 126#32 2#32 16#32 (turnStep 124#32 4#32 16#32 (turnStep 120#32 8#32 16#32 v))))
      (Network.apply (levelNet 7 false 3) u) := by
    intro v u hv
    rw [apply_levelNet, down4]
    simp only [List.foldl_cons, List.foldl_nil]
    exact
      t (s' := 0) (by decide) (by decide) _ _ _ rfl rfl rfl <| t (s' := 1) (by decide) (by decide) _ _ _ rfl rfl rfl <|
      t (s' := 2) (by decide) (by decide) _ _ _ rfl rfl rfl <| t (s' := 3) (by decide) (by decide) _ _ _ rfl rfl rfl hv
  have level2 : ∀ {v : FVec Ideal S128x64 .bf16} {u : Fin (2 ^ 7) → EReal}, Reads (col128 l) v u → Reads (col128 l)
      (turnStep 127#32 1#32 8#32 (turnStep 126#32 2#32 8#32 (turnStep 124#32 4#32 8#32 v)))
      (Network.apply (levelNet 7 false 2) u) := by
    intro v u hv
    rw [apply_levelNet, down3]
    simp only [List.foldl_cons, List.foldl_nil]
    exact
      t (s' := 0) (by decide) (by decide) _ _ _ rfl rfl rfl <| t (s' := 1) (by decide) (by decide) _ _ _ rfl rfl rfl <|
      t (s' := 2) (by decide) (by decide) _ _ _ rfl rfl rfl hv
  have level1 : ∀ {v : FVec Ideal S128x64 .bf16} {u : Fin (2 ^ 7) → EReal}, Reads (col128 l) v u → Reads (col128 l)
      (turnStep 127#32 1#32 4#32 (turnStep 126#32 2#32 4#32 v))
      (Network.apply (levelNet 7 false 1) u) := by
    intro v u hv
    rw [apply_levelNet, down2]
    simp only [List.foldl_cons, List.foldl_nil]
    exact
      t (s' := 0) (by decide) (by decide) _ _ _ rfl rfl rfl <| t (s' := 1) (by decide) (by decide) _ _ _ rfl rfl rfl hv
  have level0 : ∀ {v : FVec Ideal S128x64 .bf16} {u : Fin (2 ^ 7) → EReal}, Reads (col128 l) v u → Reads (col128 l)
      (turnStep 127#32 1#32 2#32 v)
      (Network.apply (levelNet 7 false 0) u) := by
    intro v u hv
    rw [apply_levelNet, down1]
    simp only [List.foldl_cons, List.foldl_nil]
    exact
      t (s' := 0) (by decide) (by decide) _ _ _ rfl rfl rfl hv
  exact level5 (level4 (level3 (level2 (level1 (level0 hv)))))

/-- A pair's merge, on a column. -/
theorem pair_reads (l : Fin 64) (h : Bool) {v : FVec Ideal S256x64 .bf16} {u : Fin (2 ^ 8) → EReal}
    (hv : Reads (col256 l) v u) :
    Reads (col256 l) (pairStep (BitVec.ofBool h) 255#32 1#32 (pairSteps (BitVec.ofBool h) v)) (Network.apply (mergeNet 8 h) u) := by
  rw [apply_mergeNet, down8]
  simp only [List.foldl_cons, List.foldl_nil]
  unfold pairSteps
  exact pairStep_reads l h (by decide) _ _ rfl rfl <| pairStep_reads l h (by decide) _ _ rfl rfl <|
    pairStep_reads l h (by decide) _ _ rfl rfl <| pairStep_reads l h (by decide) _ _ rfl rfl <|
    pairStep_reads l h (by decide) _ _ rfl rfl <| pairStep_reads l h (by decide) _ _ rfl rfl <|
    pairStep_reads l h (by decide) _ _ rfl rfl <| pairStep_reads l h (by decide) _ _ rfl rfl hv

/-- The final merge, on a column. -/
theorem rising_reads (l : Fin 64) {v : FVec Ideal S128x64 .bf16} {u : Fin (2 ^ 7) → EReal} (hv : Reads (col128 l) v u) :
    Reads (col128 l) (risingSteps v) (Network.apply (mergeNet 7 false) u) := by
  rw [apply_mergeNet, down7]
  simp only [List.foldl_cons, List.foldl_nil]
  unfold risingSteps
  exact risingStep_reads l (by decide) _ _ rfl rfl <| risingStep_reads l (by decide) _ _ rfl rfl <|
    risingStep_reads l (by decide) _ _ rfl rfl <| risingStep_reads l (by decide) _ _ rfl rfl <|
    risingStep_reads l (by decide) _ _ rfl rfl <| risingStep_reads l (by decide) _ _ rfl rfl <|
    risingStep_reads l (by decide) _ _ rfl rfl hv

/-! ## What is kept, and the pair's two blocks -/

theorem select_ofBool_apply {s : Shape} (b : Bool) (x y : FVec Ideal s .bf16) (j : s.Idx) :
    Scalar.select (BitVec.ofBool b) x y j = if b then x j else y j := by
  cases b <;> rfl

theorem kept_reads (l : Fin 64) (h : Bool) {x y : FVec Ideal S256x64 .bf16} {u w : Fin (2 ^ 8) → EReal}
    (hx : Reads (col256 l) x u) (hy : Reads (col256 l) y w) :
    Reads (col256 l) (kept (BitVec.ofBool h) x y) (halfOf h u w) := by
  intro i
  unfold kept halfOf
  rw [select_ofBool_apply, ← hx i, ← hy i]
  rfl

theorem keptHalf_reads (l : Fin 64) (o : Bool) {x : FVec Ideal S256x64 .bf16} {u : Fin (2 ^ 8) → EReal}
    (hx : Reads (col256 l) x u) : Reads (col128 l) (keptHalf (BitVec.ofBool o) x) (quarterOf o u) := by
  intro i
  have h0 : extractStridedSlice S128x64 ![0, 0] x slices_S256x64_o0_0_S128x64 ((col128 l).col i) = u (lowerPos 7 i) := by
    rw [← hx]
    refine congrArg x (funext fun b => ?_)
    match b with
    | ⟨0, _⟩ => exact Fin.ext (Nat.zero_add _)
    | ⟨1, _⟩ => exact Fin.ext (Nat.zero_add _)
  have h1 : extractStridedSlice S128x64 ![128, 0] x slices_S256x64_o128_0_S128x64 ((col128 l).col i) = u (upperPos 7 i) := by
    rw [← hx]
    refine congrArg x (funext fun b => ?_)
    match b with
    | ⟨0, _⟩ => exact Fin.ext (Nat.add_comm _ _)
    | ⟨1, _⟩ => exact Fin.ext (Nat.zero_add _)
  unfold keptHalf quarterOf
  rw [select_ofBool_apply, ← h0, ← h1]
  rfl

/-- A pair that holds a block over another holds, on a column, the one's column over the other's. -/
theorem join_reads (l : Fin 64) {x y : FVec Ideal S128x64 .bf16} {u w : Fin (2 ^ 7) → EReal} (hx : Reads (col128 l) x u)
    (hy : Reads (col128 l) y w) {v : FVec Ideal S256x64 .bf16}
    (h0 : ∀ i : Fin (2 ^ 7), v ((col256 l).col (lowerPos 7 i)) = x ((col128 l).col i))
    (h1 : ∀ i : Fin (2 ^ 7), v ((col256 l).col (upperPos 7 i)) = y ((col128 l).col i)) : Reads (col256 l) v (join 7 u w) := by
  intro i
  by_cases h : i.val < 2 ^ 7
  · rw [eq_lowerPos (q := 7) i h, join_lower, h0, hx]
  · rw [eq_upperPos (q := 7) i h, join_upper, h1, hy]

theorem stacked_reads (l : Fin 64) (b : Bool) {own mate : FVec Ideal S128x64 .bf16} {u w : Fin (2 ^ 7) → EReal}
    (hx : Reads (col128 l) (if b then mate else own) u) (hy : Reads (col128 l) (if b then own else mate) w) :
    Reads (col256 l) (stacked (BitVec.ofBool b) own mate) (join 7 u w) := by
  unfold stacked
  rw [select_ofBool, select_ofBool]
  refine join_reads l hx hy (fun i => ?_) (fun i => ?_)
  · refine concatenate_pair_apply_left (t := S256x64) (s₁ := S128x64) (s₂ := S128x64) 0 _ _ concatenates_S128x64_S128x64_S256x64_d0 _
      rfl ((col128 l).col i) (fun c => ?_)
    match c with
    | ⟨0, _⟩ => rfl
    | ⟨1, _⟩ => rfl
  · refine concatenate_pair_apply_right (t := S256x64) (s₁ := S128x64) (s₂ := S128x64) 0 _ _ concatenates_S128x64_S128x64_S256x64_d0 _
      rfl rfl ((col128 l).col i) (fun c hc => ?_) rfl
    match c with
    | ⟨0, _⟩ => exact absurd rfl hc
    | ⟨1, _⟩ => rfl

end Cert.ColSort

end
-- ==== Proof.SortedColumn.lean ====
/-
# The reference's sort, on a column

With the floats replaced by the reals, the reference's comparator is `<`; so a column of its result rises, and its entries are those of
the operand's column in another order.
-/
module

public import proofs.«01_k».proof.Proof.Gen.ReferenceIdeal
public import Idealize.ShloMosaic.Lib.SortFacts
public import Idealize.ShloMosaic.Lib.ValueIdx

@[expose] public section

noncomputable section

namespace Cert.ColSort

open Idealize.ShloMosaic Idealize.SL.Sem

/-- The comparator makes `-0` and `0` one and every NaN one; on the reals there is nothing to make one, and it is `<`. -/
theorem comparator_lt (x y : Ideal .f32) :
    Cert.ReferenceIdeal.comparator_f32_d0 (F := Ideal) x y = BitVec.ofBool (decide ((x : EReal) < y)) := by
  have hz : Ideal.ofBits .f32 0x00000000#32 = 0 := by simp [Ideal.ofBits, Ideal.ieee]
  have h0 : ∀ z : EReal, Scalar.select (Ideal.cmp .oeq z (Ideal.ofBits .f32 0x00000000#32)) (Ideal.ofBits .f32 0x00000000#32) z = z := by
    intro z
    rw [hz]
    show Scalar.select (BitVec.ofBool (decide (z = 0))) 0 z = z
    by_cases h : z = 0
    · rw [decide_eq_true h, h]; rfl
    · rw [decide_eq_false h]; rfl
  have h1 : ∀ z w : EReal, Scalar.select (Ideal.cmp .une z z) (Ideal.ofBits .f32 0x7FC00000#32) w = w := by
    intro z w
    show Scalar.select (BitVec.ofBool (decide (z ≠ z))) _ w = w
    rw [decide_eq_false (not_not_intro rfl)]; rfl
  have e : ∀ z : EReal, Scalar.select (Ideal.cmp .une z z) (Ideal.ofBits .f32 0x7FC00000#32)
      (Scalar.select (Ideal.cmp .oeq z (Ideal.ofBits .f32 0x00000000#32)) (Ideal.ofBits .f32 0x00000000#32) z) = z :=
    fun z => (h1 z _).trans (h0 z)
  exact congrArg₂ (fun a b => Ideal.cmpTotal .lt a b) (e x) (e y)

/-- Column `l` of an array of 512 rows. -/
def colOf (X : (⟨2, ![512, 64]⟩ : Shape).Idx → EReal) (l : Fin 64) (i : Fin (2 ^ 9)) : EReal := X (ValueIdx.ix2 i l)

/-- The index of row `k` of the column an index is in. -/
abbrev rowOf (j : (⟨2, ![512, 64]⟩ : Shape).Idx) (k : Fin 512) : (⟨2, ![512, 64]⟩ : Shape).Idx :=
  Shape.Idx.along (s := ⟨2, ![512, 64]⟩) j (0 : Fin 2) k

theorem rowOf_ix2 (i k : Fin 512) (l : Fin 64) : rowOf (ValueIdx.ix2 i l) k = ValueIdx.ix2 k l := by
  funext b
  match b with
  | ⟨0, _⟩ => exact Function.update_self (β := fun a => Fin ((⟨2, ![512, 64]⟩ : Shape).size a)) (0 : Fin 2) k _
  | ⟨1, h⟩ => exact Function.update_of_ne (show (⟨1, h⟩ : Fin 2) ≠ 0 from Fin.ne_of_val_ne Nat.one_ne_zero) k _

/-- Whether one row's entry of a column goes before another's. -/
def before (X : (⟨2, ![512, 64]⟩ : Shape).Idx → EReal) (l : Fin 64) (i k : Fin (2 ^ 9)) : Bool := decide (colOf X l i < colOf X l k)

/-- The reference's result. -/
def sortedCols (X : (⟨2, ![512, 64]⟩ : Shape).Idx → EReal) : (⟨2, ![512, 64]⟩ : Shape).Idx → EReal :=
  Host.sort ⟨2, ![512, 64]⟩ 0 (Cert.ReferenceIdeal.comparator_f32_d0 (F := Ideal)) X

/-- The reference's sort at one index, written out. -/
theorem sortedCols_apply (X : (⟨2, ![512, 64]⟩ : Shape).Idx → EReal) (j : (⟨2, ![512, 64]⟩ : Shape).Idx) :
    sortedCols X j = X (rowOf j (sortedFrom (fun k k' : Fin 512 =>
      Cert.ReferenceIdeal.comparator_f32_d0 (F := Ideal) (X (rowOf j k)) (X (rowOf j k')) == 1#1) (j (0 : Fin 2)))) := rfl

theorem sortedCols_col (X : (⟨2, ![512, 64]⟩ : Shape).Idx → EReal) (l : Fin 64) (i : Fin (2 ^ 9)) :
    colOf (sortedCols X) l i = colOf X l (sortedFrom (before X l) i) := by
  have hR : (fun k k' : Fin 512 => Cert.ReferenceIdeal.comparator_f32_d0 (F := Ideal)
        (X (rowOf (ValueIdx.ix2 i l) k)) (X (rowOf (ValueIdx.ix2 i l) k')) == 1#1) = before X l := by
    funext k k'
    rw [rowOf_ix2, rowOf_ix2, comparator_lt]
    show (BitVec.ofBool (before X l k k') == 1#1) = before X l k k'
    cases before X l k k' <;> rfl
  unfold colOf
  rw [sortedCols_apply, hR, rowOf_ix2]

theorem sortedCols_monotone (X : (⟨2, ![512, 64]⟩ : Shape).Idx → EReal) (l : Fin 64) : Monotone (colOf (sortedCols X) l) := by
  intro i j hij
  rcases eq_or_lt_of_le hij with rfl | hlt
  · exact le_refl _
  rw [sortedCols_col, sortedCols_col]
  have h := sortedFrom_noInversion (before X l) (before X l)
    (fun a b hab => decide_eq_false (not_lt_of_gt (of_decide_eq_true hab))) (fun a b hab => hab)
    (fun a b c hab hbc => decide_eq_false (not_lt.mpr (le_trans (not_lt.mp (of_decide_eq_false hbc)) (not_lt.mp (of_decide_eq_false hab)))))
    i j hlt
  exact not_lt.mp (of_decide_eq_false h)

theorem perm_of_bijective {n : Nat} {u v : Fin n → EReal} (f : Fin n → Fin n) (hf : Function.Bijective f) (h : ∀ i, u i = v (f i)) :
    ∃ σ : Equiv.Perm (Fin n), u = v ∘ σ :=
  ⟨Equiv.ofBijective f hf, funext h⟩

theorem sortedCols_perm (X : (⟨2, ![512, 64]⟩ : Shape).Idx → EReal) (l : Fin 64) :
    ∃ σ : Equiv.Perm (Fin (2 ^ 9)), colOf (sortedCols X) l = colOf X l ∘ σ := by
  refine perm_of_bijective (sortedFrom (before X l)) ?_ (sortedCols_col X l)
  exact ⟨sortedFrom_injective _, sortedFrom_surjective _⟩

end Cert.ColSort

end
-- ==== Proof.Quarter.lean ====
/-
# What each device returns

From the four blocks of the input's columns to the block each device returns: the device's own block sorted, the block of its mate beside
it, the far pair read from the gather buffer, the merges, and at the end the device's quarter of the sorted column.
-/
module

public import proofs.«01_k».proof.Proof.Launch
public import proofs.«01_k».proof.Proof.Reads
public import proofs.«01_k».proof.Proof.SortedColumn
public import Idealize.ShloMosaic.Lib.Layout

@[expose] public section

noncomputable section

namespace Cert.ColSort

open Cert.KernelIdeal Cert.KernelIdeal.Gen
open Idealize.ShloMosaic Idealize.ShloMosaic.TcCoe Idealize.SL.Sem
open Idealize.ShloMosaic.SortNet

/-! ## The host's two transposes -/

section
variable {F : FTy → Type} [FloatOps F] (m : (ℓ : Loc nD τ sig) → Buf (Elt F) ℓ)

theorem xin_eq (c : Dev nD) :
    xin m c = transpose S64x128 [1, 0] (m ((c : Thread nD τ).loc main_arg0)) transposes_S128x64_S64x128_1_0 := by
  show StableHlo.after (List.flatten [hostOps0]) (fun b => m (c, b)) (Proc.devRef .tc main_v1) = _
  rw [List.flatten_cons, List.flatten_nil, List.append_nil, hostOps0, StableHlo.after_cons, StableHlo.after_nil]
  exact StableHlo.unary_result _ _ _ _ _ _

theorem V2_res (c : Dev nD) :
    V2 m c main_v3 = transpose S128x64 [1, 0] (resOf m c) transposes_S64x128_S128x64_1_0 := by
  rw [← arr_final, ← V1_v2]
  show StableHlo.after _ (V1 m c) (dref main_v3) = _
  rw [hostOps1, StableHlo.after_cons, StableHlo.after_nil]
  exact StableHlo.unary_result _ _ _ _ _ _

end

/-! ## The device's place -/

/-- Whether a device is in the upper pair, and whether it is the second of its pair. -/
def hi (c : Dev nD) : Bool := decide (2 ≤ c.val)
def odd (c : Dev nD) : Bool := decide (c.val % 2 = 1)

theorem highBit_eq (c : Dev nD) : highBit c = BitVec.ofBool (hi c) := by revert c; decide +kernel
theorem oddBit_eq (c : Dev nD) : oddBit c = BitVec.ofBool (odd c) := by revert c; decide +kernel
theorem xor_one (h : Bool) : Scalar.xori (BitVec.ofBool h) 1#1 = BitVec.ofBool (!h) := by cases h <;> rfl
theorem hi_mate (c : Dev nD) : hi (peer 0 c) = hi c := by revert c; decide
theorem odd_mate (c : Dev nD) : odd (peer 0 c) = !odd c := by revert c; decide

/-- The device at a place. -/
def devAt (h o : Bool) : Dev nD := ⟨2 * h.toNat + o.toNat, by cases h <;> cases o <;> decide⟩

theorem devAt_val (h o : Bool) : (devAt h o).val = 2 * h.toNat + o.toNat := rfl
theorem devAt_place (c : Dev nD) : devAt (hi c) (odd c) = c := by revert c; decide
theorem hi_devAt (h o : Bool) : hi (devAt h o) = h := by revert h o; decide
theorem odd_devAt (h o : Bool) : odd (devAt h o) = o := by revert h o; decide

/-- A device's block of an array, read by columns. -/
theorem block_entry (X : (⟨2, ![512, 64]⟩ : Shape).Idx → EReal) (c : Dev nD) (i : Fin (2 ^ 7)) (l : Fin 64) :
    Layout.block ⟨2, ![128, 64]⟩ ⟨2, ![512, 64]⟩ 0 4 c X (by decide) (ValueIdx.ix2 i l) = blockAt (colOf X l) (hi c) (odd c) i := by
  refine congrArg X (funext fun b => ?_)
  match b with
  | ⟨0, _⟩ =>
    refine Fin.ext ?_
    show c.val * 128 + i.val = Fin.val (if hi c then upperPos 8 (if odd c then upperPos 7 i else lowerPos 7 i)
      else lowerPos 8 (if odd c then upperPos 7 i else lowerPos 7 i))
    have hc : c.val = 2 * (hi c).toNat + (odd c).toNat := (congrArg Fin.val (devAt_place c)).symm
    rw [hc]
    cases hi c <;> cases odd c <;> simp <;> omega
  | ⟨1, _⟩ => rfl

/-- The kernel's first two operations, entry by entry: the block turned; the narrower format keeps every exact value. -/
theorem turned_entry (v : Vec Ideal S64x128 .f32) (i : Fin (2 ^ 7)) (l : Fin 64) :
    k0_pay1 v ((col128 l).col i) = transpose S128x64 [1, 0] v transposes_S64x128_p1_0_S128x64 (ValueIdx.ix2 i l) := rfl

/-! ## The blocks, the pairs, the result -/

section
variable (m : (ℓ : Loc nD τ sig) → Buf (Elt Ideal) ℓ) (X : (⟨2, ![512, 64]⟩ : Shape).Idx → EReal)

/-- Every device's argument is its block of `X`. -/
def Given : Prop := ∀ c : Dev nD,
  m ((c : Thread nD τ).loc main_arg0) = Layout.block ⟨2, ![128, 64]⟩ ⟨2, ![512, 64]⟩ 0 4 c X (by decide)

variable {m X} (hX : Given m X)
include hX

theorem own_reads (c : Dev nD) (l : Fin 64) :
    Reads (col128 l) (sortedOf c (xin m c)) (sorted (odd c) (blockAt (colOf X l) (hi c) (odd c))) := by
  unfold sortedOf
  rw [oddBit_eq]
  refine sorted_reads l (odd c) (fun i => ?_)
  rw [← block_entry, xin_eq, hX c]
  refine (turned_entry _ i l).trans ?_
  refine (ValueIdx.transpose_ix2_apply (a := 64) (b := 128) _ transposes_S64x128_p1_0_S128x64 i l).trans ?_
  exact ValueIdx.transpose_ix2_apply (a := 128) (b := 64) _ transposes_S128x64_S64x128_1_0 l i

/-- The same, of the device at a place. -/
theorem own_reads_at (h o : Bool) (l : Fin 64) :
    Reads (col128 l) (sortedOf (devAt h o) (xin m (devAt h o))) (sorted o (blockAt (colOf X l) h o)) := by
  have := own_reads hX (devAt h o) l
  rwa [hi_devAt, odd_devAt] at this

theorem near_reads (c : Dev nD) (l : Fin 64) :
    Reads (col256 l) (nearPair (oddBit c) (highBit c) (sortedOf c (xin m c)) (sortedOf (peer 0 c) (xin m (peer 0 c))))
      (pairAt (colOf X l) (hi c)) := by
  have h1 := own_reads hX c l
  have h2 := own_reads hX (peer 0 c) l
  rw [hi_mate, odd_mate] at h2
  rw [nearPair_eq, oddBit_eq, highBit_eq]
  refine pair_reads l (hi c) (stacked_reads l (odd c) ?_ ?_)
  · revert h1 h2
    cases odd c
    · exact fun h1 _ => h1
    · exact fun _ h2 => h2
  · revert h1 h2
    cases odd c
    · exact fun _ h2 => h2
    · exact fun h1 _ => h1

theorem far_reads (c : Dev nD) (l : Fin 64) :
    Reads (col256 l) (pairStep (Scalar.xori (highBit c) 1#1) 255#32 1#32 (farPair (highBit c) (farOf m c)))
      (pairAt (colOf X l) (!hi c)) := by
  rw [farPair_eq, highBit_eq, xor_one]
  refine pair_reads l (!hi c) (join_reads l (own_reads_at hX (!hi c) false l) (own_reads_at hX (!hi c) true l) (fun i => ?_) fun i => ?_)
  all_goals
    unfold farOf
    refine gAll_at m _ _ rfl _ _ fun a => ?_
    refine (ValueKit.view_emb_slice_whole_unit_val cc0_scratch0 _ _ _ _ a).trans ?_
    refine (congrArg (· + _) (congrFun (k0_off4_eq c) a)).trans ?_
    match a with
    | ⟨0, _⟩ =>
      by_cases h : 2 ≤ c.val
      all_goals simp [hi, devAt_val, h, col128, col256, ValueIdx.ix2]
      all_goals omega
    | ⟨1, _⟩ => rfl

/-- Device `c`'s result is its quarter of the sorted columns. -/
theorem res_entry (c : Dev nD) (l : Fin 64) (i : Fin (2 ^ 7)) :
    resOf m c (ValueIdx.ix2 l i) = blockAt (whole (colOf X l)) (hi c) (odd c) i := by
  unfold resOf outOf
  rw [lastMerge_eq]
  refine (ValueIdx.transpose_ix2_apply (a := 128) (b := 64) _ transposes_S128x64_p1_0_S64x128 l i).trans ?_
  rw [← whole_place]
  have hn := near_reads hX c l
  have hf := far_reads hX c l
  rw [oddBit_eq, highBit_eq] at hn ⊢
  rw [highBit_eq] at hf
  exact rising_reads l (keptHalf_reads l (odd c) (kept_reads l (hi c) hn hf)) i

theorem whole_eq (l : Fin 64) : whole (colOf X l) = colOf (sortedCols X) l :=
  eq_of_perm (whole_monotone _) (sortedCols_monotone X l) (whole_perm _) (sortedCols_perm X l)

/-- Device `c`'s result's array at the end is its block of the reference's result. -/
theorem result_block (c : Dev nD) :
    V2 m c main_v3 = Layout.block ⟨2, ![128, 64]⟩ ⟨2, ![512, 64]⟩ 0 4 c (sortedCols X) (by decide) := by
  rw [V2_res]
  funext j
  obtain ⟨i, l, rfl⟩ : ∃ (i : Fin 128) (l : Fin 64), j = ValueIdx.ix2 i l := ⟨_, _, ValueIdx.eq_ix2 j⟩
  refine (ValueIdx.transpose_ix2_apply (a := 64) (b := 128) _ transposes_S64x128_S128x64_1_0 i l).trans ?_
  refine (res_entry hX c l i).trans ?_
  rw [whole_eq hX]
  exact (block_entry (sortedCols X) c i l).symm

end

end Cert.ColSort

end
-- ==== Proof.lean ====
/-
# The claims

The three frames, that nothing was rewritten, and that the two idealized programs' results agree.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Launch
public import proofs.«01_k».proof.Proof.Quarter

@[expose] public section

noncomputable section

namespace Cert.Proof

open Idealize.ShloMosaic Idealize.ShloMosaic.TcCoe Idealize.SL.Sem

variable {F : FTy → Type} [FloatOps F]

/-- The two programs' tables are one table. -/
theorem tables₀ : Cert.Kernel.defs₀ (F := F) = Cert.KernelIdeal.defs₀ := by
  unfold Cert.Kernel.defs₀ Cert.KernelIdeal.defs₀
  refine congrArg Defs.onTc (funext fun l => funext fun x => ?_)
  match l, x with
  | 0, (t, s) => rfl
theorem tables : Cert.Kernel.defs (F := F) = Cert.KernelIdeal.defs := by
  show Pipeline.defs Cert.KernelIdeal.pcfgs (Cert.Kernel.defs₀ (F := F)) = _
  rw [tables₀]
  rfl

/-- The kernel's run without its values. -/
theorem frame_any (m : (ℓ : Loc Cert.KernelIdeal.nD Cert.KernelIdeal.τ Cert.KernelIdeal.sig) → Buf (Elt F) ℓ) (ρ : Dev Cert.KernelIdeal.nD → PrngReg) :
    θ_run Cert.KernelIdeal.defs (onTc (τ := Cert.KernelIdeal.τ) (Cert.KernelIdeal.main (F := F))) ⟨m, fun _ => 0, ρ⟩
      (fun r => (∀ c : Dev Cert.KernelIdeal.nD, r.2.mem ((c : Thread Cert.KernelIdeal.nD Cert.KernelIdeal.τ).loc Cert.KernelIdeal.main_arg0)
          = m ((c : Thread Cert.KernelIdeal.nD Cert.KernelIdeal.τ).loc Cert.KernelIdeal.main_arg0)) ∧ r.2.sem = fun _ => 0) :=
  (θ_run _ _ _).mono (fun _ h => ⟨fun c => (h.1 c).1, h.2⟩) (Cert.ColSort.run_main m ρ)

theorem frame_kernel : Cert.quiescent_Kernel := fun m ρ _ => by
  rw [tables]
  exact frame_any m ρ

theorem frame_kernelIdeal : Cert.quiescent_KernelIdeal := fun m ρ _ => frame_any m ρ

theorem frame_referenceIdeal : Cert.quiescent_ReferenceIdeal := fun m ρ _ =>
  (θ_run _ _ _).mono (fun r h => ⟨fun c => (h c).2, sem_eq_zero_of_no_sems rfl r.2⟩) (Cert.ReferenceIdeal.Value.run m ρ)

/-- Each device's result is its block of the reference's sorted columns. -/
theorem results_agree : Cert.algebraic_KernelIdeal_ReferenceIdeal := fun m ρ m' ρ' _ hX =>
  ⟨Cert.ColSort.sortedCols (m' (((0 : Dev Cert.ReferenceIdeal.nD) : Thread Cert.ReferenceIdeal.nD Cert.ReferenceIdeal.τ).loc Cert.ReferenceIdeal.main_arg0)),
    (θ_run _ _ _).mono (fun _ h c => ⟨(h.1 c).2.trans (Cert.ColSort.result_block hX c), (h.1 c).1⟩) (Cert.ColSort.run_main m ρ),
    (θ_run _ _ _).mono (fun _ h => h 0) (Cert.ReferenceIdeal.Value.run m' ρ')⟩

theorem claim : Cert.Claim := ⟨Cert.Kernel.Gen.facts, Cert.KernelIdeal.Gen.facts, Cert.ReferenceIdeal.Gen.facts,
  frame_kernel, frame_kernelIdeal, frame_referenceIdeal, trivial, results_agree⟩

end Cert.Proof

end
